-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.bf16_pair.Statement Cert.KernelIdeal.S1x128x2x128 Cert.KernelIdeal.S1x128x1x128
  ∧ IdealRules.bf16_pair.HalfStatement Cert.KernelIdeal.S128x128
  ∧ IdealRules.named_const.Statement Cert.KernelIdeal.κ "masked" .bf16 0xFB80#16 ⊥
  ∧ IdealRules.named_const.Statement Cert.KernelIdeal.κ "exp2_scale" .f32 0x3E0293EE#32 (((Real.sqrt 128)⁻¹ * (Real.log 2)⁻¹ : ℝ) : EReal)

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S2x1024x32x128 : Shape := ⟨4, ![2, 1024, 32, 128]⟩
abbrev S2x1024x8x128 : Shape := ⟨4, ![2, 1024, 8, 128]⟩
abbrev S2x1024x8 : Shape := ⟨3, ![2, 1024, 8]⟩
abbrev S2x32x200 : Shape := ⟨3, ![2, 32, 200]⟩
abbrev S2x32x600 : Shape := ⟨3, ![2, 32, 600]⟩
abbrev S_ : Shape := ⟨0, ![]⟩

class Facts : Prop where
  bcast_S_S2x1024x8 : S_.BroadcastsInDim S2x1024x8 (![] : Fin 0 → Fin S2x1024x8.rank)
  reducesTo_S2x1024x8_S_d0_1_2 : S2x1024x8.ReducesTo [0, 1, 2] S_
  h_S_ : 0 < S_.numel

variable [Facts]

def fn {F : FTy → Type} [FloatOps F] (main_arg0 : FVec F S2x1024x32x128 .bf16) (main_arg1 : FVec F S2x1024x8x128 .fp8e4m3) (main_arg2 : FVec F S2x1024x8 .f32) (main_arg3 : FVec F S2x1024x8x128 .fp8e4m3) (main_arg4 : FVec F S2x1024x8 .f32) (main_arg5 : IVec S2x32x200 32) (main_arg6 : IVec S2x32x600 32) : IVec S_ 1 :=
  let main_cst : FVec F S_ .f32 := constant S_ .f32 0x00000000#32
  let main_v0 : FVec F S2x1024x8 .f32 := broadcastInDim S2x1024x8 ![] bcast_S_S2x1024x8 main_cst
  let main_v1 : IVec S2x1024x8 1 := cmpf .oge main_arg2 main_v0
  let main_cst_0 : FVec F S_ .f32 := constant S_ .f32 0x7F800000#32
  let main_v2 : FVec F S2x1024x8 .f32 := broadcastInDim S2x1024x8 ![] bcast_S_S2x1024x8 main_cst_0
  let main_v3 : IVec S2x1024x8 1 := cmpf .olt main_arg2 main_v2
  let main_v4 : IVec S2x1024x8 1 := andi main_v1 main_v3
  let main_c : IVec S_ 1 := constantI S_ 1 1#1
  let main_v5 : IVec S_ 1 := (fun x v => Host.reduce IntOp.andi x v reducesTo_S2x1024x8_S_d0_1_2 h_S_) main_v4 main_c
  main_v5
-- ==== Kernel.lean ====
abbrev S2x1024x32x128 : Shape := ⟨4, ![2, 1024, 32, 128]⟩
abbrev S2x1024x8x128 : Shape := ⟨4, ![2, 1024, 8, 128]⟩
abbrev S2x1024x8 : Shape := ⟨3, ![2, 1024, 8]⟩
abbrev S2x32x200 : Shape := ⟨3, ![2, 32, 200]⟩
abbrev S2x32x600 : Shape := ⟨3, ![2, 32, 600]⟩
abbrev S2x1024x4096 : Shape := ⟨3, ![2, 1024, 4096]⟩
abbrev S1x1024x8x128 : Shape := ⟨4, ![1, 1024, 8, 128]⟩
abbrev S1x1024x8 : Shape := ⟨3, ![1, 1024, 8]⟩
abbrev S1x8x200 : Shape := ⟨3, ![1, 8, 200]⟩
abbrev S1x8x600 : Shape := ⟨3, ![1, 8, 600]⟩
abbrev S1x1024x1024 : Shape := ⟨3, ![1, 1024, 1024]⟩
abbrev S8x640 : Shape := ⟨2, ![8, 640]⟩
abbrev S8x256 : Shape := ⟨2, ![8, 256]⟩
abbrev S8x8x128 : Shape := ⟨3, ![8, 8, 128]⟩
abbrev S128x128 : Shape := ⟨2, ![128, 128]⟩
abbrev S8x8x64x128 : Shape := ⟨4, ![8, 8, 64, 128]⟩
abbrev S2x1024x128 : Shape := ⟨3, ![2, 1024, 128]⟩
abbrev S2x128x1024 : Shape := ⟨3, ![2, 128, 1024]⟩
abbrev S2x1024x256 : Shape := ⟨3, ![2, 1024, 256]⟩
abbrev S8x128 : Shape := ⟨2, ![8, 128]⟩
abbrev S8x600 : Shape := ⟨2, ![8, 600]⟩
abbrev S128x640 : Shape := ⟨2, ![128, 640]⟩
abbrev S1x640 : Shape := ⟨2, ![1, 640]⟩
abbrev S1x8x128 : Shape := ⟨3, ![1, 8, 128]⟩
abbrev S8x200 : Shape := ⟨2, ![8, 200]⟩
abbrev S128x256 : Shape := ⟨2, ![128, 256]⟩
abbrev S1x256 : Shape := ⟨2, ![1, 256]⟩
abbrev S64x128 : Shape := ⟨2, ![64, 128]⟩
abbrev S64x1 : Shape := ⟨2, ![64, 1]⟩
abbrev S1x1x64x128 : Shape := ⟨4, ![1, 1, 64, 128]⟩
abbrev S1x1x128 : Shape := ⟨3, ![1, 1, 128]⟩
abbrev S1x128 : Shape := ⟨2, ![1, 128]⟩
abbrev S1x1x8x128 : Shape := ⟨4, ![1, 1, 8, 128]⟩
abbrev S128x8 : Shape := ⟨2, ![128, 8]⟩
abbrev S1x128x1x128 : Shape := ⟨4, ![1, 128, 1, 128]⟩
abbrev S1x128x8 : Shape := ⟨3, ![1, 128, 8]⟩
abbrev S128 : Shape := ⟨1, ![128]⟩
abbrev S128x1 : Shape := ⟨2, ![128, 1]⟩
abbrev S1x128x128 : Shape := ⟨3, ![1, 128, 128]⟩
abbrev S1x1024x4x128 : Shape := ⟨4, ![1, 1024, 4, 128]⟩
abbrev S1x128x2x128 : Shape := ⟨4, ![1, 128, 2, 128]⟩
abbrev S256x256 : Shape := ⟨2, ![256, 256]⟩
abbrev S1x128x256 : Shape := ⟨3, ![1, 128, 256]⟩
abbrev S16x8x256 : Shape := ⟨3, ![16, 8, 256]⟩
abbrev S256 : Shape := ⟨1, ![256]⟩
abbrev S1x256x256 : Shape := ⟨3, ![1, 256, 256]⟩
abbrev S32x8x256 : Shape := ⟨3, ![32, 8, 256]⟩

abbrev nBuf : Space → Nat
  | .hbm => 8
  | .vmem => 25
  | .smem => 0
  | _ => 0

abbrev bufTy : (tb : Table) → Fin (tcTables nBuf tb) → BufTy
  | .hbm, ⟨0, _⟩ => ⟨S2x1024x32x128, .bf16⟩
  | .hbm, ⟨1, _⟩ => ⟨S2x1024x8x128, .fp8e4m3⟩
  | .hbm, ⟨2, _⟩ => ⟨S2x1024x8, .f32⟩
  | .hbm, ⟨3, _⟩ => ⟨S2x1024x8x128, .fp8e4m3⟩
  | .hbm, ⟨4, _⟩ => ⟨S2x1024x8, .f32⟩
  | .hbm, ⟨5, _⟩ => ⟨S2x32x200, .i32⟩
  | .hbm, ⟨6, _⟩ => ⟨S2x32x600, .i32⟩
  | .hbm, ⟨7, _⟩ => ⟨S2x1024x4096, .bf16⟩
  | .local _ .vmem, ⟨0, _⟩ => ⟨S1x1024x8x128, .bf16⟩
  | .local _ .vmem, ⟨1, _⟩ => ⟨S1x1024x8x128, .bf16⟩
  | .local _ .vmem, ⟨2, _⟩ => ⟨S1x1024x8x128, .fp8e4m3⟩
  | .local _ .vmem, ⟨3, _⟩ => ⟨S1x1024x8x128, .fp8e4m3⟩
  | .local _ .vmem, ⟨4, _⟩ => ⟨S1x1024x8, .f32⟩
  | .local _ .vmem, ⟨5, _⟩ => ⟨S1x1024x8, .f32⟩
  | .local _ .vmem, ⟨6, _⟩ => ⟨S1x1024x8x128, .fp8e4m3⟩
  | .local _ .vmem, ⟨7, _⟩ => ⟨S1x1024x8x128, .fp8e4m3⟩
  | .local _ .vmem, ⟨8, _⟩ => ⟨S1x1024x8, .f32⟩
  | .local _ .vmem, ⟨9, _⟩ => ⟨S1x1024x8, .f32⟩
  | .local _ .vmem, ⟨10, _⟩ => ⟨S1x8x200, .i32⟩
  | .local _ .vmem, ⟨11, _⟩ => ⟨S1x8x200, .i32⟩
  | .local _ .vmem, ⟨12, _⟩ => ⟨S1x8x600, .i32⟩
  | .local _ .vmem, ⟨13, _⟩ => ⟨S1x8x600, .i32⟩
  | .local _ .vmem, ⟨14, _⟩ => ⟨S1x1024x1024, .bf16⟩
  | .local _ .vmem, ⟨15, _⟩ => ⟨S1x1024x1024, .bf16⟩
  | .local _ .vmem, ⟨16, _⟩ => ⟨S8x640, .i32⟩
  | .local _ .vmem, ⟨17, _⟩ => ⟨S8x256, .i32⟩
  | .local _ .vmem, ⟨18, _⟩ => ⟨S8x8x128, .i32⟩
  | .local _ .vmem, ⟨19, _⟩ => ⟨S128x128, .i32⟩
  | .local _ .vmem, ⟨20, _⟩ => ⟨S8x8x64x128, .i32⟩
  | .local _ .vmem, ⟨21, _⟩ => ⟨S8x8x64x128, .i32⟩
  | .local _ .vmem, ⟨22, _⟩ => ⟨S2x1024x128, .bf16⟩
  | .local _ .vmem, ⟨23, _⟩ => ⟨S2x128x1024, .bf16⟩
  | .local _ .vmem, ⟨24, _⟩ => ⟨S2x1024x256, .f32⟩
  | _, _ => ⟨S2x1024x32x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [BitOps F]

abbrev grid0 : Pipeline.Grid := ⟨2, ![2, 4], ![false, false]⟩

def k0_off1 (i : grid0.Coords) (c0_i32_4834 : BitVec 32) : Fin 4 → Nat :=
  let c0_4835 : Index := 0#32
  let c0_4836 : Index := 0#32
  let arg1 : BitVec 32 := BitVec.ofNat 32 (i 1).val
  let c2_i32_4833 : BitVec 32 := 2#32
  let v5955 : BitVec 32 := Scalar.muli arg1 c2_i32_4833
  let v5956 : BitVec 32 := Scalar.addi v5955 c0_i32_4834
  let v5957 : Index := Scalar.indexCast v5956
  let c0_4837 : Index := 0#32
  ![0, 0, v5957.toNat, 0]
def k0_off2 (i : grid0.Coords) (c0_i32_4864 : BitVec 32) : Fin 4 → Nat :=
  let c0_4865 : Index := 0#32
  let c128 : Index := 128#32
  let arg1 : BitVec 32 := BitVec.ofNat 32 (i 1).val
  let c2_i32_4863 : BitVec 32 := 2#32
  let v6002 : BitVec 32 := Scalar.muli arg1 c2_i32_4863
  let v6003 : BitVec 32 := Scalar.addi v6002 c0_i32_4864
  let v6004 : Index := Scalar.indexCast v6003
  let c0_4866 : Index := 0#32
  ![0, 128, v6004.toNat, 0]
def k0_off3 (i : grid0.Coords) (c0_i32_4893 : BitVec 32) : Fin 4 → Nat :=
  let c0_4894 : Index := 0#32
  let c256 : Index := 256#32
  let arg1 : BitVec 32 := BitVec.ofNat 32 (i 1).val
  let c2_i32_4892 : BitVec 32 := 2#32
  let v6049 : BitVec 32 := Scalar.muli arg1 c2_i32_4892
  let v6050 : BitVec 32 := Scalar.addi v6049 c0_i32_4893
  let v6051 : Index := Scalar.indexCast v6050
  let c0_4895 : Index := 0#32
  ![0, 256, v6051.toNat, 0]
def k0_off4 (i : grid0.Coords) (c0_i32_4922 : BitVec 32) : Fin 4 → Nat :=
  let c0_4923 : Index := 0#32
  let c384 : Index := 384#32
  let arg1 : BitVec 32 := BitVec.ofNat 32 (i 1).val
  let c2_i32_4921 : BitVec 32 := 2#32
  let v6096 : BitVec 32 := Scalar.muli arg1 c2_i32_4921
  let v6097 : BitVec 32 := Scalar.addi v6096 c0_i32_4922
  let v6098 : Index := Scalar.indexCast v6097
  let c0_4924 : Index := 0#32
  ![0, 384, v6098.toNat, 0]
def k0_off5 (i : grid0.Coords) (c0_i32_4951 : BitVec 32) : Fin 4 → Nat :=
  let c0_4952 : Index := 0#32
  let c512 : Index := 512#32
  let arg1 : BitVec 32 := BitVec.ofNat 32 (i 1).val
  let c2_i32_4950 : BitVec 32 := 2#32
  let v6143 : BitVec 32 := Scalar.muli arg1 c2_i32_4950
  let v6144 : BitVec 32 := Scalar.addi v6143 c0_i32_4951
  let v6145 : Index := Scalar.indexCast v6144
  let c0_4953 : Index := 0#32
  ![0, 512, v6145.toNat, 0]
def k0_off6 (i : grid0.Coords) (c0_i32_4980 : BitVec 32) : Fin 4 → Nat :=
  let c0_4981 : Index := 0#32
  let c640 : Index := 640#32
  let arg1 : BitVec 32 := BitVec.ofNat 32 (i 1).val
  let c2_i32_4979 : BitVec 32 := 2#32
  let v6190 : BitVec 32 := Scalar.muli arg1 c2_i32_4979
  let v6191 : BitVec 32 := Scalar.addi v6190 c0_i32_4980
  let v6192 : Index := Scalar.indexCast v6191
  let c0_4982 : Index := 0#32
  ![0, 640, v6192.toNat, 0]
def k0_off7 (i : grid0.Coords) (c0_i32_5009 : BitVec 32) : Fin 4 → Nat :=
  let c0_5010 : Index := 0#32
  let c768 : Index := 768#32
  let arg1 : BitVec 32 := BitVec.ofNat 32 (i 1).val
  let c2_i32_5008 : BitVec 32 := 2#32
  let v6237 : BitVec 32 := Scalar.muli arg1 c2_i32_5008
  let v6238 : BitVec 32 := Scalar.addi v6237 c0_i32_5009
  let v6239 : Index := Scalar.indexCast v6238
  let c0_5011 : Index := 0#32
  ![0, 768, v6239.toNat, 0]
def k0_off8 (i : grid0.Coords) (c0_i32_5038 : BitVec 32) : Fin 4 → Nat :=
  let c0_5039 : Index := 0#32
  let c896 : Index := 896#32
  let arg1 : BitVec 32 := BitVec.ofNat 32 (i 1).val
  let c2_i32_5037 : BitVec 32 := 2#32
  let v6284 : BitVec 32 := Scalar.muli arg1 c2_i32_5037
  let v6285 : BitVec 32 := Scalar.addi v6284 c0_i32_5038
  let v6286 : Index := Scalar.indexCast v6285
  let c0_5040 : Index := 0#32
  ![0, 896, v6286.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x8x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x8x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x8x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x200 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x600 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "exp2_scale" => some (((Real.sqrt 128)⁻¹ * (Real.log 2)⁻¹ : ℝ) : EReal)
  | "masked" => some ⊥
  | _ => none
-- ==== ReferenceIdeal.lean ====
abbrev S2x1024x32x128 : Shape := ⟨4, ![2, 1024, 32, 128]⟩
abbrev S2x1024x8x128 : Shape := ⟨4, ![2, 1024, 8, 128]⟩
abbrev S2x1024x8 : Shape := ⟨3, ![2, 1024, 8]⟩
abbrev S2x32x200 : Shape := ⟨3, ![2, 32, 200]⟩
abbrev S2x32x600 : Shape := ⟨3, ![2, 32, 600]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S2x32x200x1 : Shape := ⟨4, ![2, 32, 200, 1]⟩
abbrev S1x1x1x1024 : Shape := ⟨4, ![1, 1, 1, 1024]⟩
abbrev S2x32x200x1024 : Shape := ⟨4, ![2, 32, 200, 1024]⟩
abbrev S_ : Shape := ⟨0, ![]⟩
abbrev S2x32x1024 : Shape := ⟨3, ![2, 32, 1024]⟩
abbrev S2x32x600x1x1 : Shape := ⟨5, ![2, 32, 600, 1, 1]⟩
abbrev S1x1x1x1024x1024 : Shape := ⟨5, ![1, 1, 1, 1024, 1024]⟩
abbrev S2x32x600x1024x1024 : Shape := ⟨5, ![2, 32, 600, 1024, 1024]⟩
abbrev S2x32x1024x1024 : Shape := ⟨4, ![2, 32, 1024, 1024]⟩
abbrev S2x32x1x1024 : Shape := ⟨4, ![2, 32, 1, 1024]⟩
abbrev S1x1x1024x1024 : Shape := ⟨4, ![1, 1, 1024, 1024]⟩
abbrev S2x8x4x1024x1024 : Shape := ⟨5, ![2, 8, 4, 1024, 1024]⟩
abbrev S2x8x1024 : Shape := ⟨3, ![2, 8, 1024]⟩
abbrev S2x8x1x1x1024 : Shape := ⟨5, ![2, 8, 1, 1, 1024]⟩
abbrev S2x1024x8x4x128 : Shape := ⟨5, ![2, 1024, 8, 4, 128]⟩
abbrev S2x8x1024x1024x4 : Shape := ⟨5, ![2, 8, 1024, 1024, 4]⟩
abbrev S2x8x4x1024 : Shape := ⟨4, ![2, 8, 4, 1024]⟩
abbrev S2x8x4x1024x1 : Shape := ⟨5, ![2, 8, 4, 1024, 1]⟩
abbrev S2x8x128x4x1024 : Shape := ⟨5, ![2, 8, 128, 4, 1024]⟩
abbrev S2x1024x4096 : Shape := ⟨3, ![2, 1024, 4096]⟩

abbrev nBuf : Space → Nat
  | .hbm => 77
  | .vmem => 4
  | .smem => 0
  | _ => 0

abbrev bufTy : (tb : Table) → Fin (tcTables nBuf tb) → BufTy
  | .hbm, ⟨0, _⟩ => ⟨S2x1024x32x128, .bf16⟩
  | .hbm, ⟨1, _⟩ => ⟨S2x1024x8x128, .fp8e4m3⟩
  | .hbm, ⟨2, _⟩ => ⟨S2x1024x8, .f32⟩
  | .hbm, ⟨3, _⟩ => ⟨S2x1024x8x128, .fp8e4m3⟩
  | .hbm, ⟨4, _⟩ => ⟨S2x1024x8, .f32⟩
  | .hbm, ⟨5, _⟩ => ⟨S2x32x200, .i32⟩
  | .hbm, ⟨6, _⟩ => ⟨S2x32x600, .i32⟩
  | .hbm, ⟨7, _⟩ => ⟨S2x1024x8x128, .bf16⟩
  | .hbm, ⟨8, _⟩ => ⟨S2x1024x8x128, .bf16⟩
  | .hbm, ⟨9, _⟩ => ⟨S1024, .i32⟩
  | .hbm, ⟨10, _⟩ => ⟨S1024x1, .i32⟩
  | .hbm, ⟨11, _⟩ => ⟨S1x1024, .i32⟩
  | .hbm, ⟨12, _⟩ => ⟨S1024x1024, .i32⟩
  | .hbm, ⟨13, _⟩ => ⟨S1024x1024, .i32⟩
  | .hbm, ⟨14, _⟩ => ⟨S1024x1024, .i32⟩
  | .hbm, ⟨15, _⟩ => ⟨S2x32x200x1, .i32⟩
  | .hbm, ⟨16, _⟩ => ⟨S1x1x1x1024, .i32⟩
  | .hbm, ⟨17, _⟩ => ⟨S2x32x200x1024, .i32⟩
  | .hbm, ⟨18, _⟩ => ⟨S2x32x200x1024, .i32⟩
  | .hbm, ⟨19, _⟩ => ⟨S2x32x200x1024, .i1⟩
  | .hbm, ⟨20, _⟩ => ⟨S_, .i1⟩
  | .hbm, ⟨21, _⟩ => ⟨S2x32x1024, .i1⟩
  | .hbm, ⟨22, _⟩ => ⟨S2x32x600x1x1, .i32⟩
  | .hbm, ⟨23, _⟩ => ⟨S1x1x1x1024x1024, .i32⟩
  | .hbm, ⟨24, _⟩ => ⟨S2x32x600x1024x1024, .i32⟩
  | .hbm, ⟨25, _⟩ => ⟨S2x32x600x1024x1024, .i32⟩
  | .hbm, ⟨26, _⟩ => ⟨S2x32x600x1024x1024, .i1⟩
  | .hbm, ⟨27, _⟩ => ⟨S_, .i1⟩
  | .hbm, ⟨28, _⟩ => ⟨S2x32x1024x1024, .i1⟩
  | .hbm, ⟨29, _⟩ => ⟨S_, .i32⟩
  | .hbm, ⟨30, _⟩ => ⟨S1024x1024, .i32⟩
  | .hbm, ⟨31, _⟩ => ⟨S1024x1024, .i1⟩
  | .hbm, ⟨32, _⟩ => ⟨S2x32x1x1024, .i1⟩
  | .hbm, ⟨33, _⟩ => ⟨S2x32x1024x1024, .i1⟩
  | .hbm, ⟨34, _⟩ => ⟨S2x32x1024x1024, .i1⟩
  | .hbm, ⟨35, _⟩ => ⟨S1x1x1024x1024, .i1⟩
  | .hbm, ⟨36, _⟩ => ⟨S2x32x1024x1024, .i1⟩
  | .hbm, ⟨37, _⟩ => ⟨S2x32x1024x1024, .i1⟩
  | .hbm, ⟨38, _⟩ => ⟨S2x8x4x1024x1024, .i1⟩
  | .hbm, ⟨39, _⟩ => ⟨S_, .f32⟩
  | .hbm, ⟨40, _⟩ => ⟨S_, .f32⟩
  | .hbm, ⟨41, _⟩ => ⟨S2x1024x8, .f32⟩
  | .hbm, ⟨42, _⟩ => ⟨S2x1024x8, .f32⟩
  | .hbm, ⟨43, _⟩ => ⟨S2x8x1024, .f32⟩
  | .hbm, ⟨44, _⟩ => ⟨S2x8x1x1x1024, .f32⟩
  | .hbm, ⟨45, _⟩ => ⟨S2x8x1024, .f32⟩
  | .hbm, ⟨46, _⟩ => ⟨S2x8x1x1x1024, .f32⟩
  | .hbm, ⟨47, _⟩ => ⟨S2x1024x8x4x128, .bf16⟩
  | .hbm, ⟨48, _⟩ => ⟨S2x8x1024x1024x4, .f32⟩
  | .hbm, ⟨49, _⟩ => ⟨S2x8x4x1024x1024, .f32⟩
  | .hbm, ⟨50, _⟩ => ⟨S2x8x4x1024x1024, .f32⟩
  | .hbm, ⟨51, _⟩ => ⟨S2x8x4x1024x1024, .f32⟩
  | .hbm, ⟨52, _⟩ => ⟨S_, .f32⟩
  | .hbm, ⟨53, _⟩ => ⟨S_, .f32⟩
  | .hbm, ⟨54, _⟩ => ⟨S2x8x4x1024x1024, .f32⟩
  | .hbm, ⟨55, _⟩ => ⟨S2x8x4x1024x1024, .f32⟩
  | .hbm, ⟨56, _⟩ => ⟨S_, .f32⟩
  | .hbm, ⟨57, _⟩ => ⟨S2x8x4x1024, .f32⟩
  | .hbm, ⟨58, _⟩ => ⟨S2x8x4x1024x1, .f32⟩
  | .hbm, ⟨59, _⟩ => ⟨S2x8x4x1024x1024, .f32⟩
  | .hbm, ⟨60, _⟩ => ⟨S2x8x4x1024x1024, .f32⟩
  | .hbm, ⟨61, _⟩ => ⟨S2x8x4x1024x1024, .f32⟩
  | .hbm, ⟨62, _⟩ => ⟨S_, .f32⟩
  | .hbm, ⟨63, _⟩ => ⟨S2x8x4x1024, .f32⟩
  | .hbm, ⟨64, _⟩ => ⟨S2x8x4x1024x1, .f32⟩
  | .hbm, ⟨65, _⟩ => ⟨S_, .f32⟩
  | .hbm, ⟨66, _⟩ => ⟨S2x8x4x1024x1, .f32⟩
  | .hbm, ⟨67, _⟩ => ⟨S2x8x4x1024x1, .f32⟩
  | .hbm, ⟨68, _⟩ => ⟨S2x8x4x1024x1024, .f32⟩
  | .hbm, ⟨69, _⟩ => ⟨S2x8x4x1024x1024, .f32⟩
  | .hbm, ⟨70, _⟩ => ⟨S2x8x4x1024x1024, .f32⟩
  | .hbm, ⟨71, _⟩ => ⟨S2x8x4x1024x1024, .f32⟩
  | .hbm, ⟨72, _⟩ => ⟨S2x8x4x1024x1024, .bf16⟩
  | .hbm, ⟨73, _⟩ => ⟨S2x8x128x4x1024, .f32⟩
  | .hbm, ⟨74, _⟩ => ⟨S2x1024x8x4x128, .f32⟩
  | .hbm, ⟨75, _⟩ => ⟨S2x1024x4096, .f32⟩
  | .hbm, ⟨76, _⟩ => ⟨S2x1024x4096, .bf16⟩
  | .local _ .vmem, ⟨0, _⟩ => ⟨S2x1024x8x128, .fp8e4m3⟩
  | .local _ .vmem, ⟨1, _⟩ => ⟨S2x1024x8x128, .fp8e4m3⟩
  | .local _ .vmem, ⟨2, _⟩ => ⟨S2x1024x8x128, .bf16⟩
  | .local _ .vmem, ⟨3, _⟩ => ⟨S2x1024x8x128, .bf16⟩
  | _, _ => ⟨S2x1024x32x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_0 : Ref sig .tc := ⟨.hbm, 27, rfl⟩
abbrev main_v18 : Ref sig .tc := ⟨.hbm, 28, rfl⟩
abbrev main_c_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_2 : Ref sig .tc := ⟨.hbm, 52, rfl⟩
abbrev main_call0_v0 : Ref sig .tc := ⟨.hbm, 53, rfl⟩
abbrev main_call0_v1 : Ref sig .tc := ⟨.hbm, 54, rfl⟩
abbrev main_v40 : Ref sig .tc := ⟨.hbm, 55, rfl⟩
abbrev main_cst_3 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_4 : Ref sig .tc := ⟨.hbm, 62, rfl⟩
abbrev main_v46 : Ref sig .tc := ⟨.hbm, 63, rfl⟩
abbrev main_v47 : Ref sig .tc := ⟨.hbm, 64, rfl⟩
abbrev main_cst_5 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2x1024x8x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x8x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x8x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x8x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Ops.lean ====
/- The operations of the kernel, each named once, over the values it loads: what the printed body repeats per head,
   per tile and per unit is one of these at other loads. -/
module

public import proofs.«01_k».proof.Proof.Gen.KernelIdeal.Skeleton

@[expose] public section

set_option maxRecDepth 16384

noncomputable section

namespace Cert.KernelIdeal.VS

open Idealize.ShloMosaic Idealize.SL.Sem Cert.KernelIdeal Cert.KernelIdeal.Gen

variable {F : FTy → Type} [FloatOps F] [Named F]

/-- Lane numbers of an 8x128 tile. -/
def lane8 : IVec S8x128 32 := iota .tc S8x128 32 [1] iota_S8x128_d1_w32
/-- Row numbers of an 8x128 tile. -/
def sub8 : IVec S8x128 32 := iota .tc S8x128 32 [0] iota_S8x128_d0_w32
/-- The words of one head's slash offsets: bits of an offset below, of the offset before it above. -/
def wTile (row : Vec F S1x640 .i32) : IVec S1x8x128 32 := k0_pay20 lane8 sub8 (k0_pay6 (F := F) row)
/-- The words of one head's vertical keys: bits of a key below, of the next key above. -/
def pTile (row : Vec F S1x256 .i32) : IVec S8x128 32 :=
  k0_pay55 (k0_pay42 (F := F) (iota .tc S8x256 32 [0] iota_S8x256_d0_w32) row (k0_pay41 row))
/-- One column of the vertical words, copied across the lanes. -/
def vtTile (c : Fin 64) (x : Vec F S64x128 .i32) : IVec S1x1x64x128 32 :=
  shapeCast S1x1x64x128 (broadcastTo S64x128 (shapeCast S64x1 (extractStridedSlice S64x1 ![0, c.val] x
    ⟨rfl, by intro a; have := c.isLt; match a with | 0 => (show 0 + 64 ≤ 64; decide) | 1 => (show c.val + 1 ≤ 128; omega)⟩) shapeCasts_S64x1_S64x1) broadcasts_S64x1_S64x128)
    shapeCasts_S64x128_S1x1x64x128
/-- A row of slash words, each of eight rows rotated by two lanes more than the one above. -/
def rot (g : Fin 8) (row : Vec F S1x1x128 .i32) : IVec S8x128 32 :=
  dynamicRotate 1 (BitVec.ofNat 32 (16 * g.val)) (some (2, 0)) (broadcastTo S8x128 (shapeCast S1x128 (shapeCast S1x128 row
    shapeCasts_S1x1x128_S1x128) shapeCasts_S1x128_S1x128) broadcasts_S1x128_S8x128) rotates_S8x128_d1s2a0
/-- Where a rotated row has not wrapped. -/
def keep (g : Fin 8) : IVec S8x128 1 :=
  cmpi .sge lane8 (addi (broadcast S8x128 (BitVec.ofNat 32 (16 * g.val))) (muli (broadcast S8x128 2#32) sub8))
/-- Eight rows of a strip. -/
def stripTile (g : Fin 8) (now before : IVec S8x128 32) : IVec S1x1x8x128 32 :=
  shapeCast S1x1x8x128 (select (keep g) now before) shapeCasts_S8x128_S1x1x8x128

/-- One tile of widened codes times their scales. -/
def wide (hb e : BitVec 32) (code : Vec F S1x128x1x128 .fp8e4m3) (sc : Vec F S1x128x8 .f32) : FVec F S128x128 .bf16 :=
  mulf (extf .bf16 (shapeCast S128x128 code shapeCasts_S1x128x1x128_S128x128) bitsLt_fp8e4m3_bf16)
    (truncf .bf16 (broadcastTo S128x128 (shapeCast S128x1 (shapeCast S128x1 (multiReduction .add [1] S128
      (select (cmpi .eq (iota .tc S128x8 32 [1] iota_S128x8_d1_w32) (broadcast S128x8 (Scalar.addi (Scalar.muli hb 2#32) e)))
        (shapeCast S128x8 sc shapeCasts_S1x128x8_S128x8) (broadcast S128x8 (Scalar.ofBits .f32 0x00000000#32 : F .f32)))
      0x00000000#32 reduces_S128x8_S128 (.inl rfl) rfl) shapeCasts_S128_S128x1) shapeCasts_S128x1_S128x1)
      broadcasts_S128x1_S128x128) bitsLt_bf16_f32)
/-- A key tile. -/
def kTile (hb e : BitVec 32) (code : Vec F S1x128x1x128 .fp8e4m3) (sc : Vec F S1x128x8 .f32) : FVec F S1x128x128 .bf16 :=
  shapeCast S1x128x128 (wide hb e code sc) shapeCasts_S128x128_S1x128x128
/-- A value tile, lane dimension first. -/
def vTile (hb e : BitVec 32) (code : Vec F S1x128x1x128 .fp8e4m3) (sc : Vec F S1x128x8 .f32) : FVec F S1x128x128 .bf16 :=
  shapeCast S1x128x128 (transpose S128x128 [1, 0] (wide hb e code sc) transposes_S128x128_p1_0_S128x128) shapeCasts_S128x128_S1x128x128

/-- The additive mask of words: nothing where a half is zero, the masked value elsewhere. -/
def mask (w : IVec S64x128 32) : FVec F S128x128 .bf16 :=
  select (cmpi .eq (bitcast S128x128 16 w bitcasts_S64x128_w32_S128x128_w16) (broadcast S128x128 0#16))
    (broadcast S128x128 (Scalar.ofBits .bf16 0x0000#16 : F .bf16)) (broadcast S128x128 (Named.named κ "masked" 0xFB80#16))
/-- The words of a tile left of the diagonal. -/
def wOff (st vt : Vec F S1x1x64x128 .i32) : IVec S64x128 32 :=
  andi (shapeCast S64x128 st shapeCasts_S1x1x64x128_S64x128) (shapeCast S64x128 vt shapeCasts_S1x1x64x128_S64x128)
/-- The words of a diagonal tile, later keys masked. -/
def wDiag (st vt : Vec F S1x1x64x128 .i32) : IVec S64x128 32 := ori (wOff (F := F) st vt) (k0_pay1354 k0_pay1352 k0_pay1353)
/-- The scores of one tile of keys. -/
def score (qt : FVec F S128x256 .bf16) (w0 w1 : IVec S64x128 32) (kx : Vec F S1x128x128 .bf16) : FVec F S128x256 .f32 :=
  matmul dot_S128x256_S256x256_S128x256_1_0_0_1_n_n none
    (concatenate S128x256 1 [⟨S128x128, shapeCast S128x128 kx shapeCasts_S1x128x128_S128x128⟩, ⟨S128x128, (k0_pay1351 : FVec F S128x128 .bf16)⟩] concatenates_S128x128_S128x128_S128x256_d1)
    (concatenate S256x256 0 [⟨S128x256, qt⟩, ⟨S128x256, concatenate S128x256 1 [⟨S128x128, (mask w0 : FVec F S128x128 .bf16)⟩, ⟨S128x128, (mask w1 : FVec F S128x128 .bf16)⟩] concatenates_S128x128_S128x128_S128x256_d1⟩] concatenates_S128x256_S128x256_S256x256_d0)
    (constant S128x256 .f32 0x00000000#32)
/-- A score tile as it is stored. -/
def sTile (s : FVec F S128x256 .f32) : FVec F S1x128x256 .f32 := shapeCast S1x128x256 s shapeCasts_S128x256_S1x128x256
/-- The running maxima of a tile. -/
def tmax (s : FVec F S128x256 .f32) : FVec F S8x256 .f32 :=
  multiReduction .maximumf [0] S8x256 (shapeCast S16x8x256 s shapeCasts_S128x256_S16x8x256) 0xFF800000#32 reduces_S16x8x256_S8x256 (.inl rfl) rfl
/-- The running maxima of the tiles up to one. -/
def tmaxs (s : ℕ → FVec F S128x256 .f32) : ℕ → FVec F S8x256 .f32
  | 0 => tmax (s 0)
  | j + 1 => maximumf (tmaxs s j) (tmax (s (j + 1)))
/-- The maximum of each column. -/
def colMax (t : FVec F S8x256 .f32) : FVec F S1x256 .f32 :=
  shapeCast S1x256 (multiReduction .maximumf [0] S256 t 0xFF800000#32 reduces_S8x256_S256 (.inl rfl) rfl) shapeCasts_S256_S1x256
/-- The weights of 256 keys. -/
def w256 (m : FVec F S1x256 .f32) (s : Vec F S1x256x256 .f32) : FVec F S256x256 .f32 :=
  exp2 (mulf (subf (shapeCast S256x256 s shapeCasts_S1x256x256_S256x256) (broadcastTo S256x256 m broadcasts_S1x256_S256x256))
    (broadcast S256x256 (Named.named κ "exp2_scale" 0x3E0293EE#32 : F .f32)))
/-- The weights of 128 keys. -/
def w128 (m : FVec F S1x256 .f32) (s : Vec F S1x128x256 .f32) : FVec F S128x256 .f32 :=
  exp2 (mulf (subf (shapeCast S128x256 s shapeCasts_S1x128x256_S128x256) (broadcastTo S128x256 m broadcasts_S1x256_S128x256))
    (broadcast S128x256 (Named.named κ "exp2_scale" 0x3E0293EE#32 : F .f32)))
/-- Partial sums of 256 keys' weights. -/
def l256 (p : FVec F S256x256 .f32) : FVec F S8x256 .f32 :=
  multiReduction .add [0] S8x256 (shapeCast S32x8x256 p shapeCasts_S256x256_S32x8x256) 0x00000000#32 reduces_S32x8x256_S8x256 (.inl rfl) rfl
/-- Partial sums of 128 keys' weights. -/
def l128 (p : FVec F S128x256 .f32) : FVec F S8x256 .f32 :=
  multiReduction .add [0] S8x256 (shapeCast S16x8x256 p shapeCasts_S128x256_S16x8x256) 0x00000000#32 reduces_S16x8x256_S8x256 (.inl rfl) rfl
/-- The weighted values of 256 keys. -/
def d256 (vx : Vec F S1x128x256 .bf16) (p : FVec F S256x256 .f32) : FVec F S128x256 .f32 :=
  matmul dot_S128x256_S256x256_S128x256_1_0_0_1_n_n none (shapeCast S128x256 vx shapeCasts_S1x128x256_S128x256) (truncf .bf16 p bitsLt_bf16_f32)
    (constant S128x256 .f32 0x00000000#32)
/-- The weighted values of 128 keys. -/
def d128 (vx : Vec F S1x128x128 .bf16) (p : FVec F S128x256 .f32) : FVec F S128x256 .f32 :=
  matmul dot_S128x128_S128x256_S128x256_1_0_0_1_n_n none (shapeCast S128x128 vx shapeCasts_S1x128x128_S128x128) (truncf .bf16 p bitsLt_bf16_f32)
    (constant S128x256 .f32 0x00000000#32)
/-- The sums of weights over the first pairs of tiles. -/
def ls (m : FVec F S1x256 .f32) (s : ℕ → Vec F S1x256x256 .f32) : ℕ → FVec F S8x256 .f32
  | 0 => broadcast S8x256 (Scalar.ofBits .f32 0x00000000#32 : F .f32)
  | n + 1 => addf (ls m s n) (l256 (w256 m (s n)))
/-- The weighted values over the first pairs of tiles, the first pair included. -/
def accs (m : FVec F S1x256 .f32) (s : ℕ → Vec F S1x256x256 .f32) (vx : ℕ → Vec F S1x128x256 .bf16) : ℕ → FVec F S128x256 .f32
  | 0 => d256 (vx 0) (w256 m (s 0))
  | n + 1 => addf (accs m s vx n) (d256 (vx (n + 1)) (w256 m (s (n + 1))))
/-- The weighted values divided by the sum of weights. -/
def fin (acc : FVec F S128x256 .f32) (l : FVec F S8x256 .f32) : FVec F S128x256 .bf16 :=
  truncf .bf16 (mulf acc (broadcastTo S128x256 (divf (broadcast S1x256 (Scalar.ofBits .f32 0x3F800000#32 : F .f32))
    (shapeCast S1x256 (multiReduction .add [0] S256 l 0x00000000#32 reduces_S8x256_S256 (.inl rfl) rfl) shapeCasts_S256_S1x256))
    broadcasts_S1x256_S128x256)) bitsLt_bf16_f32
/-- The output of a unit: with an odd tile number whole pairs of tiles only, with an even one a last single tile. -/
def unitOut (i : ℕ) (m : FVec F S1x256 .f32) (s : ℕ → Vec F S1x256x256 .f32) (sl : Vec F S1x128x256 .f32)
    (vx : ℕ → Vec F S1x128x256 .bf16) (vl : Vec F S1x128x128 .bf16) : FVec F S128x256 .bf16 :=
  match i with
  | 0 => fin (d128 vl (w128 m sl)) (addf (ls m s 0) (l128 (w128 m sl)))
  | i + 1 => if i % 2 = 0 then fin (accs m s vx (i / 2)) (ls m s (i / 2 + 1))
      else fin (addf (accs m s vx (i / 2)) (d128 vl (w128 m sl))) (addf (ls m s (i / 2 + 1)) (l128 (w128 m sl)))
/-- The first head's rows of a unit's output. -/
def half0 (o : FVec F S128x256 .bf16) : FVec F S1x128x128 .bf16 :=
  shapeCast S1x128x128 (transpose S128x128 [1, 0] (extractStridedSlice S128x128 ![0, 0] o slices_S128x256_o0_0_S128x128) transposes_S128x128_p1_0_S128x128)
    shapeCasts_S128x128_S1x128x128
/-- The second head's rows of a unit's output. -/
def half1 (o : FVec F S128x256 .bf16) : FVec F S1x128x128 .bf16 :=
  shapeCast S1x128x128 (transpose S128x128 [1, 0] (extractStridedSlice S128x128 ![0, 128] o slices_S128x256_o0_128_S128x128) transposes_S128x128_p1_0_S128x128)
    shapeCasts_S128x128_S1x128x128

end Cert.KernelIdeal.VS

end
-- ==== Proof.Pieces.lean ====
/- The pieces the kernel's stores leave in its scratch buffers and in its output, as lists over one term per buffer:
   each list is the printed body's, by unfolding. -/
module

public import proofs.«01_k».proof.Proof.Ops
public import proofs.«01_k».proof.Proof.Gen.KernelIdeal.Frame.RunA

@[expose] public section

set_option maxRecDepth 16384

noncomputable section

namespace Cert.KernelIdeal.VS

open Idealize.ShloMosaic Idealize.ShloMosaic.TcCoe Idealize.ShloMosaic.Tactic Idealize.SL.Sem Cert.KernelIdeal Cert.KernelIdeal.Gen
open Cert.KernelIdeal.Gen.kernelRun0_A

/-! Rectangles inside their buffers. -/

theorem inb2 {a b s0 s1 n0 n1 : ℕ} (h0 : a + s0 ≤ n0) (h1 : b + s1 ≤ n1) :
    ∀ x, (![a, b] : Fin 2 → ℕ) x + (![s0, s1] : Fin 2 → ℕ) x ≤ (![n0, n1] : Fin 2 → ℕ) x
  | 0 => h0
  | 1 => h1
theorem inb3 {a b c s0 s1 s2 n0 n1 n2 : ℕ} (h0 : a + s0 ≤ n0) (h1 : b + s1 ≤ n1) (h2 : c + s2 ≤ n2) :
    ∀ x, (![a, b, c] : Fin 3 → ℕ) x + (![s0, s1, s2] : Fin 3 → ℕ) x ≤ (![n0, n1, n2] : Fin 3 → ℕ) x
  | 0 => h0
  | 1 => h1
  | 2 => h2
theorem inb4 {a b c d s0 s1 s2 s3 n0 n1 n2 n3 : ℕ} (h0 : a + s0 ≤ n0) (h1 : b + s1 ≤ n1) (h2 : c + s2 ≤ n2) (h3 : d + s3 ≤ n3) :
    ∀ x, (![a, b, c, d] : Fin 4 → ℕ) x + (![s0, s1, s2, s3] : Fin 4 → ℕ) x ≤ (![n0, n1, n2, n3] : Fin 4 → ℕ) x
  | 0 => h0
  | 1 => h1
  | 2 => h2
  | 3 => h3

variable {F : FTy → Type} [FloatOps F] [Named F]

/-- Eight numbers, last first. -/
abbrev down8 : List (Fin 8) := [7, 6, 5, 4, 3, 2, 1, 0]

section Masks

variable (c : Dev nD) (arg7 : Memref sig .tc .vmem S1x8x200 .i32) (harg7 : arg7.IsWhole) (arg8 : Memref sig .tc .vmem S1x8x600 .i32) (harg8 : arg8.IsWhole) (arg10 : Memref sig .tc .vmem S8x640 .i32) (arg11 : Memref sig .tc .vmem S8x256 .i32) (arg12 : Memref sig .tc .vmem S8x8x128 .i32) (arg13 : Memref sig .tc .vmem S128x128 .i32) (x5 : Vec F S1x8x200 .i32) (x6 : Vec F S1x8x600 .i32)

/-- A head's slash offsets. -/
def rowS (h : Fin 8) : Vec F S1x640 .i32 :=
  arg10.view.readCov (sl.HS0_2 c arg8 harg8 x6) (Rect.unit (s := S8x640) ![h.val, 0] S1x640.size (inb2 (by omega) (by omega))).toLoadRect
/-- One head's slash words as stored. -/
def wPiece (h : Fin 8) : View.Piece (Elt F) S8x8x128 .i32 :=
  ⟨Rect.unit (s := S8x8x128) ![h.val, 0, 0] S1x8x128.size (inb3 (by omega) (by omega) (by omega)), wTile (F := F) (rowS c arg8 harg8 arg10 x6 h)⟩
theorem w_list : sl.HS2_8 c arg8 harg8 arg10 x6 = down8.map (wPiece c arg8 harg8 arg10 x6) := by
  sl_kernel_rfl

/-- A line of a head's slash words. -/
def rowW (h d : Fin 8) : Vec F S1x1x128 .i32 :=
  arg12.view.readCov (sl.HS2_8 c arg8 harg8 arg10 x6) (Rect.unit (s := S8x8x128) ![h.val, d.val, 0] S1x1x128.size
    (inb3 (by omega) (by omega) (by omega))).toLoadRect
/-- The line before, all masked before the first. -/
def before (h g d : Fin 8) : IVec S8x128 32 :=
  match d with
  | 0 => broadcast S8x128 4219534208#32
  | ⟨d + 1, hd⟩ => rot g (rowW (F := F) c arg8 harg8 arg10 arg12 x6 h ⟨d, by omega⟩)
/-- Eight rows of a head's strip as stored. -/
def stripPiece (h g d : Fin 8) : View.Piece (Elt F) S8x8x64x128 .i32 :=
  ⟨Rect.unit (s := S8x8x64x128) ![h.val, d.val, 8 * g.val, 0] S1x1x8x128.size (inb4 (by omega) (by omega) (by omega) (by omega)),
    stripTile g (rot (F := F) g (rowW c arg8 harg8 arg10 arg12 x6 h d)) (before c arg8 harg8 arg10 arg12 x6 h g d)⟩
theorem strip_list : sl.HS4_512 c arg8 harg8 arg10 arg12 x6 = down8.flatMap fun h => down8.flatMap fun g =>
    down8.map fun d => stripPiece c arg8 harg8 arg10 arg12 x6 h g d := by
  sl_kernel_rfl

/-- A head's vertical keys. -/
def rowV (h : Fin 8) : Vec F S1x256 .i32 :=
  arg11.view.readCov (sl.HS1_2 c arg7 harg7 x5) (Rect.unit (s := S8x256) ![h.val, 0] S1x256.size (inb2 (by omega) (by omega))).toLoadRect
/-- One head's vertical words as stored. -/
def pairPiece (h : Fin 8) : View.Piece (Elt F) S128x128 .i32 :=
  ⟨Rect.unit (s := S128x128) ![8 * h.val, 0] S8x128.size (inb2 (by omega) (by omega)), pTile (F := F) (rowV c arg7 harg7 arg11 x5 h)⟩
theorem pair_list : sl.HS3_9 c arg7 harg7 arg11 x5 = ⟨Rect.unit (s := S128x128) ![64, 0] S64x128.size (inb2 (by omega) (by omega)), k0_pay66⟩
    :: down8.map (pairPiece c arg7 harg7 arg11 x5) := by
  sl_kernel_rfl
/-- The vertical words, keys down. -/
def pairT : Vec F S128x128 .i32 :=
  k0_pay67 (F := F) (arg13.view.readCov (sl.HS3_9 c arg7 harg7 arg11 x5) (Rect.unit (s := S128x128) ![0, 0] S128x128.size (inb2 (by omega) (by omega))).toLoadRect)
theorem pairT_list : sl.HS3_10 c arg7 harg7 arg11 arg13 x5 = ⟨Rect.unit (s := S128x128) ![0, 0] S128x128.size (inb2 (by omega) (by omega)),
    pairT c arg7 harg7 arg11 arg13 x5⟩ :: sl.HS3_9 c arg7 harg7 arg11 x5 := by
  sl_kernel_rfl
/-- One tile of a head's vertical words as stored. -/
def vtPiece (h j : Fin 8) : View.Piece (Elt F) S8x8x64x128 .i32 :=
  ⟨Rect.unit (s := S8x8x64x128) ![h.val, j.val, 0, 0] S1x1x64x128.size (inb4 (by omega) (by omega) (by omega) (by omega)),
    vtTile (F := F) ⟨8 * h.val + j.val, by omega⟩ (sl.v577 c arg7 harg7 arg11 arg13 x5)⟩
theorem vt_list : sl.HS5_64 c arg7 harg7 arg11 arg13 x5 = down8.flatMap fun h => down8.map fun j => vtPiece c arg7 harg7 arg11 arg13 x5 h j := by
  sl_kernel_rfl

end Masks

section Widen

variable (c : Dev nD) (i : grid0.Coords) (arg3 : Memref sig .tc .vmem S1x1024x8x128 .fp8e4m3) (harg3 : arg3.IsWhole) (arg4 : Memref sig .tc .vmem S1x1024x8 .f32) (harg4 : arg4.IsWhole) (arg5 : Memref sig .tc .vmem S1x1024x8x128 .fp8e4m3) (harg5 : arg5.IsWhole) (arg6 : Memref sig .tc .vmem S1x1024x8 .f32) (harg6 : arg6.IsWhole) (x1 : Vec F S1x1024x8x128 .fp8e4m3) (x2 : Vec F S1x1024x8 .f32) (x3 : Vec F S1x1024x8x128 .fp8e4m3) (x4 : Vec F S1x1024x8 .f32)

/-- The number of the block of eight heads. -/
abbrev hbw (i : grid0.Coords) : BitVec 32 := BitVec.ofNat 32 (i 1).val
/-- Where a tile of one key head's codes lies. -/
def koff (i : grid0.Coords) (j : Fin 8) (e : Fin 2) : Fin 4 → ℕ :=
  ![0, 128 * j.val, (Scalar.indexCast (Scalar.addi (Scalar.muli (hbw i) 2#32) (BitVec.ofNat 32 e.val))).toNat, 0]
theorem koff_val (i : grid0.Coords) (j : Fin 8) (e : Fin 2) : koff i j e = ![0, 128 * j.val, 2 * (i 1).val + e.val, 0] := by
  have h : (i 1).val < 4 := (i 1).isLt
  have he := e.isLt
  unfold koff hbw
  congr 3
  generalize (i 1).val = n at h
  generalize e.val = k at he
  interval_cases n <;> interval_cases k <;> rfl
theorem koff_inb (i : grid0.Coords) (j : Fin 8) (e : Fin 2) : ∀ a, koff i j e a + S1x128x1x128.size a ≤ S1x1024x8x128.size a := by
  rw [koff_val]
  have h : (i 1).val < 4 := (i 1).isLt
  have he := e.isLt
  exact inb4 (by omega) (by omega) (by omega) (by omega)
/-- A tile of key codes. -/
def kCode (e : Fin 2) (j : Fin 8) : Vec F S1x128x1x128 .fp8e4m3 :=
  View.readAt (Elt F) arg3.view (Rect.unit (s := S1x1024x8x128) (koff i j e) S1x128x1x128.size (koff_inb i j e)).toLoadRect (harg3.unread x1)
/-- A tile of key scales. -/
def kScale (j : Fin 8) : Vec F S1x128x8 .f32 :=
  View.readAt (Elt F) arg4.view (Rect.unit (s := S1x1024x8) ![0, 128 * j.val, 0] S1x128x8.size (inb3 (by omega) (by omega) (by omega))).toLoadRect (harg4.unread x2)
/-- A tile of value codes. -/
def vCode (e : Fin 2) (j : Fin 8) : Vec F S1x128x1x128 .fp8e4m3 :=
  View.readAt (Elt F) arg5.view (Rect.unit (s := S1x1024x8x128) (koff i j e) S1x128x1x128.size (koff_inb i j e)).toLoadRect (harg5.unread x3)
/-- A tile of value scales. -/
def vScale (j : Fin 8) : Vec F S1x128x8 .f32 :=
  View.readAt (Elt F) arg6.view (Rect.unit (s := S1x1024x8) ![0, 128 * j.val, 0] S1x128x8.size (inb3 (by omega) (by omega) (by omega))).toLoadRect (harg6.unread x4)
/-- A key tile as stored. -/
def kPiece (e : Fin 2) (j : Fin 8) : View.Piece (Elt F) S2x1024x128 .bf16 :=
  ⟨Rect.unit (s := S2x1024x128) ![e.val, 128 * j.val, 0] S1x128x128.size (inb3 (by omega) (by omega) (by omega)),
    kTile (hbw i) (BitVec.ofNat 32 e.val) (kCode i arg3 harg3 x1 e j) (kScale arg4 harg4 x2 j)⟩
theorem k_list : sl.HS6_16 c i arg3 harg3 arg4 harg4 x1 x2 = ([1, 0] : List (Fin 2)).flatMap fun e => down8.map fun j =>
    kPiece i arg3 harg3 arg4 harg4 x1 x2 e j := by
  sl_kernel_rfl
/-- A value tile as stored. -/
def vPiece (e : Fin 2) (j : Fin 8) : View.Piece (Elt F) S2x128x1024 .bf16 :=
  ⟨Rect.unit (s := S2x128x1024) ![e.val, 0, 128 * j.val] S1x128x128.size (inb3 (by omega) (by omega) (by omega)),
    vTile (hbw i) (BitVec.ofNat 32 e.val) (vCode i arg5 harg5 x3 e j) (vScale arg6 harg6 x4 j)⟩
theorem v_list : sl.HS7_16 c i arg5 harg5 arg6 harg6 x3 x4 = ([1, 0] : List (Fin 2)).flatMap fun e => down8.map fun j =>
    vPiece i arg5 harg5 arg6 harg6 x3 x4 e j := by
  sl_kernel_rfl

end Widen

section Units

variable (c : Dev nD) (i : grid0.Coords) (arg2 : Memref sig .tc .vmem S1x1024x8x128 .bf16) (harg2 : arg2.IsWhole) (arg3 : Memref sig .tc .vmem S1x1024x8x128 .fp8e4m3) (harg3 : arg3.IsWhole) (arg4 : Memref sig .tc .vmem S1x1024x8 .f32) (harg4 : arg4.IsWhole) (arg5 : Memref sig .tc .vmem S1x1024x8x128 .fp8e4m3) (harg5 : arg5.IsWhole) (arg6 : Memref sig .tc .vmem S1x1024x8 .f32) (harg6 : arg6.IsWhole) (arg7 : Memref sig .tc .vmem S1x8x200 .i32) (harg7 : arg7.IsWhole) (arg8 : Memref sig .tc .vmem S1x8x600 .i32) (harg8 : arg8.IsWhole) (arg9 : Memref sig .tc .vmem S1x1024x1024 .bf16) (harg9 : arg9.IsWhole) (arg10 : Memref sig .tc .vmem S8x640 .i32) (harg10 : arg10.IsWhole) (arg11 : Memref sig .tc .vmem S8x256 .i32) (harg11 : arg11.IsWhole) (arg12 : Memref sig .tc .vmem S8x8x128 .i32) (harg12 : arg12.IsWhole) (arg13 : Memref sig .tc .vmem S128x128 .i32) (harg13 : arg13.IsWhole) (arg14 : Memref sig .tc .vmem S8x8x64x128 .i32) (harg14 : arg14.IsWhole) (arg15 : Memref sig .tc .vmem S8x8x64x128 .i32) (harg15 : arg15.IsWhole) (arg16 : Memref sig .tc .vmem S2x1024x128 .bf16) (harg16 : arg16.IsWhole) (arg17 : Memref sig .tc .vmem S2x128x1024 .bf16) (harg17 : arg17.IsWhole) (arg18 : Memref sig .tc .vmem S2x1024x256 .f32) (harg18 : arg18.IsWhole) (x0 : Vec F S1x1024x8x128 .bf16) (x1 : Vec F S1x1024x8x128 .fp8e4m3) (x2 : Vec F S1x1024x8 .f32) (x3 : Vec F S1x1024x8x128 .fp8e4m3) (x4 : Vec F S1x1024x8 .f32) (x5 : Vec F S1x8x200 .i32) (x6 : Vec F S1x8x600 .i32)

/-- A number below eight. -/
abbrev f8 (n : ℕ) : Fin 8 := ⟨n % 8, Nat.mod_lt _ (by omega)⟩
/-- A unit's key head, of the two of a block. -/
abbrev ue (u : ℕ) : Fin 2 := ⟨u / 16 % 2, Nat.mod_lt _ (by omega)⟩
/-- A unit's tile of queries. -/
abbrev ui (u : ℕ) : Fin 8 := ⟨u / 2 % 8, Nat.mod_lt _ (by omega)⟩
/-- A unit's pair of heads, of the four of a block. -/
abbrev up (u : ℕ) : Fin 4 := ⟨(2 * (u / 16) + u % 2) % 4, Nat.mod_lt _ (by omega)⟩
/-- The queries of a pair of heads. -/
def qLoad (i : Fin 8) (p : Fin 4) : Vec F S1x128x2x128 .bf16 :=
  View.readAt (Elt F) arg2.view (Rect.unit (s := S1x1024x8x128) ![0, 128 * i.val, 2 * p.val, 0] S1x128x2x128.size
    (inb4 (by omega) (by omega) (by omega) (by omega))).toLoadRect (harg2.unread x0)
/-- A strip tile. -/
def stripLoad (h d : Fin 8) : Vec F S1x1x64x128 .i32 :=
  arg14.view.readCov (sl.HS4_512 c arg8 harg8 arg10 arg12 x6) (Rect.unit (s := S8x8x64x128) ![h.val, d.val, 0, 0] S1x1x64x128.size
    (inb4 (by omega) (by omega) (by omega) (by omega))).toLoadRect
/-- A vertical tile. -/
def vtLoad (h j : Fin 8) : Vec F S1x1x64x128 .i32 :=
  arg15.view.readCov (sl.HS5_64 c arg7 harg7 arg11 arg13 x5) (Rect.unit (s := S8x8x64x128) ![h.val, j.val, 0, 0] S1x1x64x128.size
    (inb4 (by omega) (by omega) (by omega) (by omega))).toLoadRect
/-- A key tile. -/
def kLoad (e : Fin 2) (j : Fin 8) : Vec F S1x128x128 .bf16 :=
  arg16.view.readCov (sl.HS6_16 c i arg3 harg3 arg4 harg4 x1 x2) (Rect.unit (s := S2x1024x128) ![e.val, 128 * j.val, 0] S1x128x128.size
    (inb3 (by omega) (by omega) (by omega))).toLoadRect
/-- Two value tiles. -/
def vLoad2 (e : Fin 2) (n : Fin 4) : Vec F S1x128x256 .bf16 :=
  arg17.view.readCov (sl.HS7_16 c i arg5 harg5 arg6 harg6 x3 x4) (Rect.unit (s := S2x128x1024) ![e.val, 0, 256 * n.val] S1x128x256.size
    (inb3 (by omega) (by omega) (by omega))).toLoadRect
/-- One value tile. -/
def vLoad1 (e : Fin 2) (j : Fin 8) : Vec F S1x128x128 .bf16 :=
  arg17.view.readCov (sl.HS7_16 c i arg5 harg5 arg6 harg6 x3 x4) (Rect.unit (s := S2x128x1024) ![e.val, 0, 128 * j.val] S1x128x128.size
    (inb3 (by omega) (by omega) (by omega))).toLoadRect
/-- The mask words of a head at a tile of queries and one of keys. -/
def words (h t j : Fin 8) : IVec S64x128 32 :=
  if j.val = t.val then wDiag (F := F) (stripLoad c arg8 harg8 arg10 arg12 arg14 x6 h 0) (vtLoad c arg7 harg7 arg11 arg13 arg15 x5 h j)
  else wOff (F := F) (stripLoad c arg8 harg8 arg10 arg12 arg14 x6 h (f8 (t.val - j.val))) (vtLoad c arg7 harg7 arg11 arg13 arg15 x5 h j)
/-- The scores of a unit at a tile of keys. -/
def sc (u : ℕ) (j : ℕ) : FVec F S128x256 .f32 :=
  score (k0_pay1355 (qLoad arg2 harg2 x0 (ui u) (up u)))
    (words (F := F) c arg7 harg7 arg8 harg8 arg10 arg11 arg12 arg13 arg14 arg15 x5 x6 (f8 (2 * (up u).val)) (ui u) (f8 j))
    (words (F := F) c arg7 harg7 arg8 harg8 arg10 arg11 arg12 arg13 arg14 arg15 x5 x6 (f8 (2 * (up u).val + 1)) (ui u) (f8 j))
    (kLoad c i arg3 harg3 arg4 harg4 arg16 x1 x2 (ue u) (f8 j))
/-- A score tile as stored. -/
def sPiece (u : ℕ) (j : Fin 8) : View.Piece (Elt F) S2x1024x256 .f32 :=
  ⟨Rect.unit (s := S2x1024x256) ![u % 2, 128 * j.val, 0] S1x128x256.size (inb3 (by omega) (by omega) (by omega)),
    sTile (sc c i arg2 harg2 arg3 harg3 arg4 harg4 arg7 harg7 arg8 harg8 arg10 arg11 arg12 arg13 arg14 arg15 arg16 x0 x1 x2 x5 x6 u j.val)⟩
/-- What the score buffer was written with by the first units, last first. -/
def sList : ℕ → List (View.Piece (Elt F) S2x1024x256 .f32)
  | 0 => []
  | u + 1 => (down8.filter fun j => j.val ≤ (ui u).val).map (sPiece c i arg2 harg2 arg3 harg3 arg4 harg4 arg7 harg7 arg8 harg8 arg10 arg11 arg12 arg13 arg14 arg15 arg16 x0 x1 x2 x5 x6 u) ++ sList u
theorem s_list : sl.HS8_144 c i arg2 harg2 arg3 harg3 arg4 harg4 arg7 harg7 arg8 harg8 arg10 arg11 arg12 arg13 arg14 arg15 arg16 x0 x1 x2 x5 x6 = sList c i arg2 harg2 arg3 harg3 arg4 harg4 arg7 harg7 arg8 harg8 arg10 arg11 arg12 arg13 arg14 arg15 arg16 x0 x1 x2 x5 x6 32 := by
  sl_kernel_rfl
/-- Two tiles of a unit's scores, read back. -/
def sLoad2 (u : ℕ) (n : ℕ) : Vec F S1x256x256 .f32 :=
  arg18.view.readCov (sList c i arg2 harg2 arg3 harg3 arg4 harg4 arg7 harg7 arg8 harg8 arg10 arg11 arg12 arg13 arg14 arg15 arg16 x0 x1 x2 x5 x6 (u + 1)) (Rect.unit (s := S2x1024x256) ![u % 2, 256 * (n % 4), 0] S1x256x256.size
    (inb3 (by omega) (by omega) (by omega))).toLoadRect
/-- One tile of a unit's scores, read back. -/
def sLoad1 (u : ℕ) (j : Fin 8) : Vec F S1x128x256 .f32 :=
  arg18.view.readCov (sList c i arg2 harg2 arg3 harg3 arg4 harg4 arg7 harg7 arg8 harg8 arg10 arg11 arg12 arg13 arg14 arg15 arg16 x0 x1 x2 x5 x6 (u + 1)) (Rect.unit (s := S2x1024x256) ![u % 2, 128 * j.val, 0] S1x128x256.size
    (inb3 (by omega) (by omega) (by omega))).toLoadRect
/-- A unit's output. -/
def outU (u : ℕ) : FVec F S128x256 .bf16 :=
  unitOut (ui u).val (colMax (tmaxs (sc c i arg2 harg2 arg3 harg3 arg4 harg4 arg7 harg7 arg8 harg8 arg10 arg11 arg12 arg13 arg14 arg15 arg16 x0 x1 x2 x5 x6 u) (ui u).val)) (sLoad2 c i arg2 harg2 arg3 harg3 arg4 harg4 arg7 harg7 arg8 harg8 arg10 arg11 arg12 arg13 arg14 arg15 arg16 arg18 x0 x1 x2 x5 x6 u) (sLoad1 c i arg2 harg2 arg3 harg3 arg4 harg4 arg7 harg7 arg8 harg8 arg10 arg11 arg12 arg13 arg14 arg15 arg16 arg18 x0 x1 x2 x5 x6 u (ui u))
    (fun n => vLoad2 c i arg5 harg5 arg6 harg6 arg17 x3 x4 (ue u) ⟨n % 4, Nat.mod_lt _ (by omega)⟩)
    (vLoad1 c i arg5 harg5 arg6 harg6 arg17 x3 x4 (ue u) (ui u))
/-- The two heads' rows a unit stores. -/
def outPieces (u : ℕ) : List (View.Piece (Elt F) S1x1024x1024 .bf16) :=
  [⟨Rect.unit (s := S1x1024x1024) ![0, 128 * (ui u).val, 256 * (up u).val + 128] S1x128x128.size (inb3 (by omega) (by omega) (by omega)),
      half1 (outU c i arg2 harg2 arg3 harg3 arg4 harg4 arg5 harg5 arg6 harg6 arg7 harg7 arg8 harg8 arg10 arg11 arg12 arg13 arg14 arg15 arg16 arg17 arg18 x0 x1 x2 x3 x4 x5 x6 u)⟩,
    ⟨Rect.unit (s := S1x1024x1024) ![0, 128 * (ui u).val, 256 * (up u).val] S1x128x128.size (inb3 (by omega) (by omega) (by omega)),
      half0 (outU c i arg2 harg2 arg3 harg3 arg4 harg4 arg5 harg5 arg6 harg6 arg7 harg7 arg8 harg8 arg10 arg11 arg12 arg13 arg14 arg15 arg16 arg17 arg18 x0 x1 x2 x3 x4 x5 x6 u)⟩]
theorem out_list : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).1
    = (List.range 32).reverse.flatMap (outPieces c i arg2 harg2 arg3 harg3 arg4 harg4 arg5 harg5 arg6 harg6 arg7 harg7 arg8 harg8 arg10 arg11 arg12 arg13 arg14 arg15 arg16 arg17 arg18 x0 x1 x2 x3 x4 x5 x6) := by
  sl_kernel_rfl

end Units

end Cert.KernelIdeal.VS

end
-- ==== Proof.Words.lean ====
/- The words of the membership masks: which offsets and keys the one-hot products count, and the bits that say so. -/
module

public import proofs.«01_k».proof.Proof.Pieces
public import Idealize.ShloMosaic.Lib.Pointwise
public import Idealize.ShloMosaic.Lib.BitcastPair

@[expose] public section

set_option maxRecDepth 16384

noncomputable section

namespace Cert.KernelIdeal.VS

open Idealize.ShloMosaic Idealize.ShloMosaic.TcCoe Idealize.SL.Sem Cert.KernelIdeal Cert.KernelIdeal.Gen

/-! Bits of a mask: zero where the key is kept. -/

/-- A half of a mask word: zero where the key is kept. -/
def nb (p : Bool) : BitVec 32 := if p then 0#32 else 64384#32
/-- A mask word: one key in the low half, one in the high half. -/
def wd (p q : Bool) : BitVec 32 := nb p ||| (nb q <<< 16)
theorem wd_and (p q p' q' : Bool) : wd p q &&& wd p' q' = wd (p || p') (q || q') := by
  cases p <;> cases q <;> cases p' <;> cases q' <;> rfl
theorem wd_or (p q p' q' : Bool) : wd p q ||| wd p' q' = wd (p && p') (q && q') := by
  cases p <;> cases q <;> cases p' <;> cases q' <;> rfl
theorem wd_half (p q : Bool) (s : ℕ) (hs : s < 2) :
    (wd p q).extractLsb' (16 * s) 16 = 0#16 ↔ (if s = 0 then p else q) = true := by
  interval_cases s <;> cases p <;> cases q <;> decide

theorem select_eq {α : Type} (x y : BitVec 32) (a b : α) : Scalar.select (IntOp.cmpi .eq x y) a b = if x = y then a else b := by
  unfold Scalar.select IntOp.cmpi
  by_cases h : x = y
  · simp [h]
  · rw [if_neg h, show (x == y) = false from by simpa using h]; rfl
theorem half_ofBits : Ideal.ofBits .f32 0x3F000000#32 = (((1 : ℝ) / 2 : ℝ) : EReal) := by
  simp [Ideal.ofBits, Ideal.ieee, -EReal.coe_mul]; norm_num
theorem ofNat_eq {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-- The two parts of an index: its tile and its lane. -/
theorem split_iff (v : BitVec 32) (a b : ℕ) (ha : a < 8) (hb : b < 128) :
    (BitVec.ofNat 32 b = IntOp.andi v 127#32 ∧ BitVec.ofNat 32 a = IntOp.shrsi .vector v 7#32) ↔ v = BitVec.ofNat 32 (128 * a + b) := by
  have h1 : (IntOp.andi v 127#32).toNat = v.toNat % 128 := by
    show (v &&& 127#32).toNat = _
    rw [BitVec.toNat_and]
    exact Nat.and_two_pow_sub_one_eq_mod _ 7
  have h2 : (IntOp.shrsi .vector v 7#32).toInt = v.toInt / 128 := by
    show (v.sshiftRight 7).toInt = _
    rw [BitVec.toInt_sshiftRight, Int.shiftRight_eq_div_pow]; rfl
  have hlt : v.toNat < 4294967296 := v.isLt
  have hi : (2 * v.toNat < 4294967296 ∧ v.toInt = v.toNat) ∨ (4294967296 ≤ 2 * v.toNat ∧ v.toInt = (v.toNat : ℤ) - 4294967296) := by
    rw [BitVec.toInt_eq_toNat_cond]
    by_cases h : 2 * v.toNat < 2 ^ 32
    · rw [if_pos h]; exact .inl ⟨h, rfl⟩
    · rw [if_neg h]; exact .inr ⟨not_lt.1 h, by norm_num⟩
  have e1 : BitVec.ofNat 32 b = IntOp.andi v 127#32 ↔ b = v.toNat % 128 := by
    rw [← BitVec.toNat_inj, h1, BitVec.toNat_ofNat, Nat.mod_eq_of_lt (by omega)]
  have ea : (BitVec.ofNat 32 a).toInt = a := by interval_cases a <;> rfl
  have e2 : BitVec.ofNat 32 a = IntOp.shrsi .vector v 7#32 ↔ (a : ℤ) = v.toInt / 128 := by
    rw [← BitVec.toInt_inj, h2, ea]
  have e3 : v = BitVec.ofNat 32 (128 * a + b) ↔ v.toNat = 128 * a + b := by
    rw [← BitVec.toNat_inj, BitVec.toNat_ofNat, Nat.mod_eq_of_lt (by omega)]
  rw [e1, e2, e3]
  rcases hi with ⟨h, hi⟩ | ⟨h, hi⟩ <;> rw [hi] <;> omega

/-- A count of matches passes one half just when there is one. -/
theorem count_iff {n : ℕ} (v : Fin n → BitVec 32) (a b : ℕ) (ha : a < 8) (hb : b < 128) :
    (((1 : ℝ) / 2 : ℝ) : EReal) < ∑ x, Scalar.select (IntOp.cmpi .eq (BitVec.ofNat 32 b) (IntOp.andi (v x) 127#32))
        (Scalar.select (IntOp.cmpi .eq (BitVec.ofNat 32 a) (IntOp.shrsi .vector (v x) 7#32)) (1 : EReal) 0) 0
      ↔ ∃ x, v x = BitVec.ofNat 32 (128 * a + b) := by
  have e : ∀ x, Scalar.select (IntOp.cmpi .eq (BitVec.ofNat 32 b) (IntOp.andi (v x) 127#32))
        (Scalar.select (IntOp.cmpi .eq (BitVec.ofNat 32 a) (IntOp.shrsi .vector (v x) 7#32)) (1 : EReal) 0) 0
      = if v x = BitVec.ofNat 32 (128 * a + b) then 1 else 0 := by
    intro x
    rw [select_eq, select_eq, ← ite_and]
    exact if_congr (split_iff _ _ _ ha hb) rfl rfl
  rw [Finset.sum_congr rfl fun x _ => e x]
  constructor
  · intro h
    by_contra hn
    simp only [not_exists] at hn
    rw [Finset.sum_eq_zero fun x _ => if_neg (hn x)] at h
    have : ((1 : ℝ) / 2 : ℝ) < 0 := by exact_mod_cast h
    norm_num at this
  · rintro ⟨x, hx⟩
    have h1 : (1 : EReal) ≤ ∑ x, if v x = BitVec.ofNat 32 (128 * a + b) then (1 : EReal) else 0 := by
      refine le_trans ?_ (Finset.single_le_sum (f := fun x => if v x = BitVec.ofNat 32 (128 * a + b) then (1 : EReal) else 0)
        (fun i _ => ?_) (Finset.mem_univ x))
      · simp [hx]
      · split_ifs <;> simp
    refine lt_of_lt_of_le ?_ h1
    exact_mod_cast (by norm_num : ((1 : ℝ) / 2 : ℝ) < 1)

/-! What a run of writes leaves, read through one function of the position. -/

theorem readCov_at {sg : RefSig} {kd : Kind} {sp : Space} {s : Shape} {e : EltTy} (v : View sg kd sp s e) (G : s.Idx → Elt Ideal e)
    (L : List (View.Piece (Elt Ideal) s e)) (hL : ∀ p ∈ L, ∀ x : p.1.shape.Idx, p.2 x = G (p.1.emb x)) (B : LoadRect s) (j : B.shape.Idx)
    (hc : ∃ p ∈ L, B.idx j ∈ p.1.set) : v.readCov L B j = G (B.idx j) := by
  rw [View.readCov_eq_canon']
  exact View.canon_apply_of_pieces G L hL _ hc
theorem canon_prefix {s : Shape} {e : EltTy} (G : s.Idx → Elt Ideal e) (L' : List (View.Piece (Elt Ideal) s e)) :
    ∀ (L : List (View.Piece (Elt Ideal) s e)) (_ : ∀ p ∈ L, ∀ x : p.1.shape.Idx, p.2 x = G (p.1.emb x)) (y : s.Idx)
      (_ : ∃ p ∈ L, y ∈ p.1.set), View.canon (L ++ L') y = G y
  | [], _, _, hy => by obtain ⟨p, hp, _⟩ := hy; simp at hp
  | p :: L, hL, y, hy => by
    by_cases hm : y ∈ p.1.set
    · obtain ⟨x, rfl⟩ := p.1.exists_idx_of_mem hm
      rw [show p.1.idx x = p.1.emb x from rfl, List.cons_append, View.canon_cons_emb]
      exact hL p (by simp) x
    · rw [List.cons_append, View.canon_cons_of_not_mem _ _ hm]
      refine canon_prefix G L' L (fun q hq => hL q (by simp [hq])) y ?_
      obtain ⟨q, hq, hyq⟩ := hy
      rcases List.mem_cons.mp hq with rfl | hq'
      · exact absurd hyq hm
      · exact ⟨q, hq', hyq⟩
theorem unit_emb {s : Shape} {off size : Fin s.rank → ℕ} {inb : ∀ a, off a + size a ≤ s.size a} (x : (Rect.unit off size inb).shape.Idx)
    (a : Fin s.rank) : ((Rect.unit off size inb).emb x a).val = off a + (x a).val := by
  show off a + 1 * (x a).val = _; omega
theorem mem_down8 (h : Fin 8) : h ∈ down8 := by fin_cases h <;> decide

/-! One head's words. -/

/-- Whether a row of indices has a number. -/
def hitP {n : ℕ} (v : Fin n → BitVec 32) (k : ℕ) : Bool := decide (∃ x, v x = BitVec.ofNat 32 k)
/-- The word of a number: whether the row has it, and whether it has the number before. -/
def wBack (p : ℕ → Bool) (k : ℕ) : BitVec 32 := wd (p k) (decide (k ≠ 0) && p (k - 1))
/-- The word of a number: whether the row has it, and whether it has the number after. -/
def wNext (p : ℕ → Bool) (k : ℕ) : BitVec 32 := wd (p k) (p (k + 1))

theorem ite_nb (P : Prop) [Decidable P] : (if P then 0#32 else 64384#32) = nb (decide P) := by
  unfold nb
  by_cases h : P <;> simp [h]
theorem ori_shli (p q : Bool) : IntOp.ori (nb p) (IntOp.shli .vector (nb q) 16#32) = wd p q := by
  cases p <;> cases q <;> rfl

theorem wTile_apply (row : Vec Ideal S1x640 .i32) (x : S1x8x128.Idx) :
    wTile (F := Ideal) row x = wBack (hitP fun k => row (ix2 0 k)) (128 * (x 1).val + (x 2).val) := by
  idx_vars x
  have key : ∀ (a : Fin 8) (b : Fin 128), (if Ideal.ofBits .f32 0x3F000000#32 < k0_pay6 (F := Ideal) row (ix2 a b) then 0#32 else 64384#32)
      = nb (hitP (fun k => row (ix2 0 k)) (128 * a.val + b.val)) := by
    intro a b
    rw [ite_nb]
    refine congrArg nb (decide_eq_decide.2 ?_)
    rw [half_ofBits, ← count_iff (fun k => row (ix2 0 k)) a b a.isLt b.isLt]
    pointwise [k0_pay6]
  unfold wTile
  pointwise [k0_pay20, lane8, sub8]
  rw [key, key, key, select_eq, select_eq]
  have ha := x1.isLt
  have hb := x2.isLt
  rw [if_congr (ofNat_eq (by omega) (b := 0) (by omega)) rfl rfl, if_congr (ofNat_eq (by omega) (b := 0) (by omega)) rfl rfl]
  unfold wBack
  rw [← ori_shli]
  refine congrArg (IntOp.ori _) (congrArg (fun z => IntOp.shli .vector z 16#32) ?_)
  by_cases hb0 : x2.val = 0
  · rw [if_pos hb0]
    by_cases ha0 : x1.val = 0
    · rw [if_pos ha0]
      simp [ha0, hb0, nb]
    · rw [if_neg ha0]
      refine congrArg nb ?_
      have e : 128 * x1.val + x2.val ≠ 0 := by omega
      simp only [e, ne_eq, not_false_eq_true, decide_true, Bool.true_and]
      congr 1
      omega
  · rw [if_neg hb0]
    refine congrArg nb ?_
    have e : 128 * x1.val + x2.val ≠ 0 := by omega
    simp only [e, ne_eq, not_false_eq_true, decide_true, Bool.true_and]
    congr 1
    omega
theorem pTile_apply (row : Vec Ideal S1x256 .i32) (a : Fin 8) (b : Fin 128) (hb : b.val + 1 < 128) :
    pTile (F := Ideal) row (ix2 a b) = wNext (hitP fun k => row (ix2 0 k)) (128 * a.val + b.val) := by
  have key : ∀ (a : Fin 8) (b : Fin 128), (if Ideal.ofBits .f32 0x3F000000#32 < k0_pay42 (F := Ideal) (iota .tc S8x256 32 [0] iota_S8x256_d0_w32) row (k0_pay41 row) (ix2 a b) then 0#32 else 64384#32)
      = nb (hitP (fun k => row (ix2 0 k)) (128 * a.val + b.val)) := by
    intro a b
    rw [ite_nb]
    refine congrArg nb (decide_eq_decide.2 ?_)
    rw [half_ofBits, ← count_iff (fun k => row (ix2 0 k)) a b a.isLt b.isLt]
    pointwise [k0_pay42, k0_pay41]
  unfold pTile
  pointwise [k0_pay55]
  rw [key, key, ori_shli]
  unfold wNext
  congr 2
  dsimp only
  omega

end Cert.KernelIdeal.VS

end
-- ==== Proof.Rows.lean ====
/- The rows of mask words a head stores, for the slash offsets and for the vertical keys. -/
module

public import proofs.«01_k».proof.Proof.Words
public import Idealize.ShloMosaic.Lib.Pointwise
public import Idealize.ShloMosaic.Lib.BitcastPair

@[expose] public section

set_option maxRecDepth 16384

noncomputable section

namespace Cert.KernelIdeal.VS

open Idealize.ShloMosaic Idealize.ShloMosaic.TcCoe Idealize.ShloMosaic.Tactic Idealize.SL.Sem Cert.KernelIdeal Cert.KernelIdeal.Gen
open Cert.KernelIdeal.Gen.kernelRun0_A

/-! Reading a store's rectangle and a load's. -/

theorem idx_ext2 {n0 n1 : ℕ} {y : (⟨2, ![n0, n1]⟩ : Shape).Idx} {a : Fin n0} {b : Fin n1} (h0 : (y 0).val = a.val) (h1 : (y 1).val = b.val) :
    y = ix2 a b := by
  funext x; match x with | 0 => exact Fin.ext h0 | 1 => exact Fin.ext h1
theorem idx_ext3 {n0 n1 n2 : ℕ} {y : (⟨3, ![n0, n1, n2]⟩ : Shape).Idx} {a : Fin n0} {b : Fin n1} {c : Fin n2} (h0 : (y 0).val = a.val)
    (h1 : (y 1).val = b.val) (h2 : (y 2).val = c.val) : y = ix3 a b c := by
  funext x; match x with | 0 => exact Fin.ext h0 | 1 => exact Fin.ext h1 | 2 => exact Fin.ext h2
theorem idx_ext4 {n0 n1 n2 n3 : ℕ} {y : (⟨4, ![n0, n1, n2, n3]⟩ : Shape).Idx} {a : Fin n0} {b : Fin n1} {c : Fin n2} {d : Fin n3}
    (h0 : (y 0).val = a.val) (h1 : (y 1).val = b.val) (h2 : (y 2).val = c.val) (h3 : (y 3).val = d.val) : y = ix4 a b c d := by
  funext x; match x with | 0 => exact Fin.ext h0 | 1 => exact Fin.ext h1 | 2 => exact Fin.ext h2 | 3 => exact Fin.ext h3
theorem unit_idx {s : Shape} {off size : Fin s.rank → ℕ} {inb : ∀ a, off a + size a ≤ s.size a} (x : (Rect.unit off size inb).shape.Idx)
    (a : Fin s.rank) : ((Rect.unit off size inb).toLoadRect.idx x a).val = off a + (x a).val := by
  show off a + 1 * (x a).val = _; omega
theorem readAt_unread {sg : RefSig} {kd : Kind} {sp : Space} {s : Shape} {e : EltTy} (m : Memref sg kd sp s e) (hm : m.IsWhole)
    (x : s.Idx → Elt Ideal e) (r : Rect s) (j : r.shape.Idx) : View.readAt (Elt Ideal) m.view r.toLoadRect (hm.unread x) j = x (r.idx j) := by
  rw [View.readAt_eq_ld, hm.read_unread]
theorem readCov_apply {sg : RefSig} {kd : Kind} {sp : Space} {s : Shape} {e : EltTy} (v : View sg kd sp s e)
    (L : List (View.Piece (Elt Ideal) s e)) (B : LoadRect s) (j : B.shape.Idx) {y : s.Idx} (hy : B.idx j = y) :
    v.readCov L B j = View.canon L y := by
  rw [View.readCov_eq_canon', ← hy]
theorem mem2 {n0 n1 o0 o1 s0 s1 : ℕ} {inb} {y : (⟨2, ![n0, n1]⟩ : Shape).Idx} (h0 : o0 ≤ (y 0).val ∧ (y 0).val < o0 + s0)
    (h1 : o1 ≤ (y 1).val ∧ (y 1).val < o1 + s1) : y ∈ (Rect.unit (s := ⟨2, ![n0, n1]⟩) ![o0, o1] ![s0, s1] inb).set :=
  Rect.mem_set_unit.2 fun a => match a with | 0 => h0 | 1 => h1
theorem mem3 {n0 n1 n2 o0 o1 o2 s0 s1 s2 : ℕ} {inb} {y : (⟨3, ![n0, n1, n2]⟩ : Shape).Idx} (h0 : o0 ≤ (y 0).val ∧ (y 0).val < o0 + s0)
    (h1 : o1 ≤ (y 1).val ∧ (y 1).val < o1 + s1) (h2 : o2 ≤ (y 2).val ∧ (y 2).val < o2 + s2) :
    y ∈ (Rect.unit (s := ⟨3, ![n0, n1, n2]⟩) ![o0, o1, o2] ![s0, s1, s2] inb).set :=
  Rect.mem_set_unit.2 fun a => match a with | 0 => h0 | 1 => h1 | 2 => h2
theorem mem4 {n0 n1 n2 n3 o0 o1 o2 o3 s0 s1 s2 s3 : ℕ} {inb} {y : (⟨4, ![n0, n1, n2, n3]⟩ : Shape).Idx}
    (h0 : o0 ≤ (y 0).val ∧ (y 0).val < o0 + s0) (h1 : o1 ≤ (y 1).val ∧ (y 1).val < o1 + s1)
    (h2 : o2 ≤ (y 2).val ∧ (y 2).val < o2 + s2) (h3 : o3 ≤ (y 3).val ∧ (y 3).val < o3 + s3) :
    y ∈ (Rect.unit (s := ⟨4, ![n0, n1, n2, n3]⟩) ![o0, o1, o2, o3] ![s0, s1, s2, s3] inb).set :=
  Rect.mem_set_unit.2 fun a => match a with | 0 => h0 | 1 => h1 | 2 => h2 | 3 => h3

section Masks

variable (c : Dev nD) (arg7 : Memref sig .tc .vmem S1x8x200 .i32) (harg7 : arg7.IsWhole) (arg8 : Memref sig .tc .vmem S1x8x600 .i32) (harg8 : arg8.IsWhole) (arg10 : Memref sig .tc .vmem S8x640 .i32) (arg11 : Memref sig .tc .vmem S8x256 .i32) (arg12 : Memref sig .tc .vmem S8x8x128 .i32) (arg13 : Memref sig .tc .vmem S128x128 .i32) (arg14 : Memref sig .tc .vmem S8x8x64x128 .i32) (arg15 : Memref sig .tc .vmem S8x8x64x128 .i32) (x5 : Vec Ideal S1x8x200 .i32) (x6 : Vec Ideal S1x8x600 .i32)

theorem s0_list : sl.HS0_2 (F := Ideal) c arg8 harg8 x6 = [⟨Rect.unit (s := S8x640) ![0, 0] S8x600.size (inb2 (by omega) (by omega)),
      k0_pay5 (F := Ideal) (View.readAt (Elt Ideal) arg8.view (Rect.unit (s := S1x8x600) ![0, 0, 0] S1x8x600.size (inb3 (by omega) (by omega) (by omega))).toLoadRect (harg8.unread x6))⟩,
    ⟨Rect.unit (s := S8x640) ![0, 0] S8x640.size (inb2 (by omega) (by omega)), k0_pay4⟩] := by
  sl_kernel_rfl
theorem v0_list : sl.HS1_2 (F := Ideal) c arg7 harg7 x5 = [⟨Rect.unit (s := S8x256) ![0, 0] S8x200.size (inb2 (by omega) (by omega)),
      k0_pay40 (F := Ideal) (View.readAt (Elt Ideal) arg7.view (Rect.unit (s := S1x8x200) ![0, 0, 0] S1x8x200.size (inb3 (by omega) (by omega) (by omega))).toLoadRect (harg7.unread x5))⟩,
    ⟨Rect.unit (s := S8x256) ![0, 0] S8x256.size (inb2 (by omega) (by omega)), k0_pay39⟩] := by
  sl_kernel_rfl

/-- A head's slash offsets, padded by a number that is none. -/
theorem rowS_apply (h : Fin 8) (k : Fin 640) : rowS (F := Ideal) c arg8 harg8 arg10 x6 h (ix2 0 k)
    = if hk : k.val < 600 then x6 (ix3 0 h ⟨k.val, hk⟩) else 4294967295#32 := by
  unfold rowS
  rw [readCov_apply _ _ _ _ (y := ix2 h k) (idx_ext2 (by rw [unit_idx]; rfl) (by rw [unit_idx]; exact Nat.zero_add _)), s0_list]
  by_cases hk : k.val < 600
  · rw [dif_pos hk, show (ix2 h k : S8x640.Idx) = (Rect.unit (s := S8x640) ![0, 0] S8x600.size (inb2 (by omega) (by omega))).emb (ix2 h ⟨k.val, hk⟩)
      from (idx_ext2 (by rw [unit_emb]; exact Nat.zero_add _) (by rw [unit_emb]; exact Nat.zero_add _)).symm, View.canon_cons_emb]
    pointwise [k0_pay5]
    refine (readAt_unread _ _ _ _ _).trans (congrArg x6 ?_)
    exact idx_ext3 rfl ((unit_idx _ _).trans (Nat.zero_add _)) ((unit_idx _ _).trans (Nat.zero_add _))
  · rw [dif_neg hk, View.canon_cons_of_not_mem]
    · rw [show (ix2 h k : S8x640.Idx) = (Rect.unit (s := S8x640) ![0, 0] S8x640.size (inb2 (by omega) (by omega))).emb (ix2 h k)
        from (idx_ext2 (by rw [unit_emb]; exact Nat.zero_add _) (by rw [unit_emb]; exact Nat.zero_add _)).symm, View.canon_cons_emb]
      pointwise [k0_pay4]
    · intro hm
      have := ((Rect.mem_set_unit (inb := inb2 (by omega) (by omega))).1 hm 1).2
      exact hk (by simpa using this)
/-- A head's vertical keys, padded by a number that is none. -/
theorem rowV_apply (h : Fin 8) (k : Fin 256) : rowV (F := Ideal) c arg7 harg7 arg11 x5 h (ix2 0 k)
    = if hk : k.val < 200 then x5 (ix3 0 h ⟨k.val, hk⟩) else 4294967295#32 := by
  unfold rowV
  rw [readCov_apply _ _ _ _ (y := ix2 h k) (idx_ext2 (by rw [unit_idx]; rfl) (by rw [unit_idx]; exact Nat.zero_add _)), v0_list]
  by_cases hk : k.val < 200
  · rw [dif_pos hk, show (ix2 h k : S8x256.Idx) = (Rect.unit (s := S8x256) ![0, 0] S8x200.size (inb2 (by omega) (by omega))).emb (ix2 h ⟨k.val, hk⟩)
      from (idx_ext2 (by rw [unit_emb]; exact Nat.zero_add _) (by rw [unit_emb]; exact Nat.zero_add _)).symm, View.canon_cons_emb]
    pointwise [k0_pay40]
    refine (readAt_unread _ _ _ _ _).trans (congrArg x5 ?_)
    exact idx_ext3 rfl ((unit_idx _ _).trans (Nat.zero_add _)) ((unit_idx _ _).trans (Nat.zero_add _))
  · rw [dif_neg hk, View.canon_cons_of_not_mem]
    · rw [show (ix2 h k : S8x256.Idx) = (Rect.unit (s := S8x256) ![0, 0] S8x256.size (inb2 (by omega) (by omega))).emb (ix2 h k)
        from (idx_ext2 (by rw [unit_emb]; exact Nat.zero_add _) (by rw [unit_emb]; exact Nat.zero_add _)).symm, View.canon_cons_emb]
      pointwise [k0_pay39]
    · intro hm
      have := ((Rect.mem_set_unit (inb := inb2 (by omega) (by omega))).1 hm 1).2
      exact hk (by simpa using this)

/-- The padding has no number. -/
theorem hit_pad {n m : ℕ} (v : Fin m → BitVec 32) (k : ℕ) (hk : k < 4294967295) (hnm : m ≤ n) :
    hitP (fun t : Fin n => if ht : t.val < m then v ⟨t.val, ht⟩ else 4294967295#32) k = hitP v k := by
  unfold hitP
  refine decide_eq_decide.2 ⟨?_, ?_⟩
  · rintro ⟨t, ht⟩
    dsimp only at ht
    by_cases h : t.val < m
    · exact ⟨⟨t.val, h⟩, by rw [dif_pos h] at ht; exact ht⟩
    · rw [dif_neg h] at ht
      have := congrArg BitVec.toNat ht
      simp only [BitVec.toNat_ofNat] at this
      omega
  · rintro ⟨t, ht⟩
    exact ⟨⟨t.val, by omega⟩, by dsimp only; rw [dif_pos t.isLt]; exact ht⟩

/-- Whether a head has a slash offset. -/
def slashP (h : Fin 8) (n : ℕ) : Bool := hitP (fun t : Fin 600 => x6 (ix3 0 h t)) n
/-- Whether a head has a vertical key. -/
def vertP (h : Fin 8) (n : ℕ) : Bool := hitP (fun t : Fin 200 => x5 (ix3 0 h t)) n

theorem wBack_rowS (h : Fin 8) (k : ℕ) (hk : k < 4294967295) :
    wBack (hitP fun t : Fin 640 => rowS (F := Ideal) c arg8 harg8 arg10 x6 h (ix2 0 t)) k = wBack (slashP x6 h) k := by
  have e : (fun t : Fin 640 => rowS (F := Ideal) c arg8 harg8 arg10 x6 h (ix2 0 t))
      = fun t : Fin 640 => if ht : t.val < 600 then x6 (ix3 0 h ⟨t.val, ht⟩) else 4294967295#32 :=
    funext fun t => rowS_apply c arg8 harg8 arg10 x6 h t
  unfold wBack slashP
  rw [e, hit_pad (fun t : Fin 600 => x6 (ix3 0 h t)) k hk (by omega), hit_pad (fun t : Fin 600 => x6 (ix3 0 h t)) (k - 1) (by omega) (by omega)]
theorem wNext_rowV (h : Fin 8) (k : ℕ) (hk : k < 4294967294) :
    wNext (hitP fun t : Fin 256 => rowV (F := Ideal) c arg7 harg7 arg11 x5 h (ix2 0 t)) k = wNext (vertP x5 h) k := by
  have e : (fun t : Fin 256 => rowV (F := Ideal) c arg7 harg7 arg11 x5 h (ix2 0 t))
      = fun t : Fin 256 => if ht : t.val < 200 then x5 (ix3 0 h ⟨t.val, ht⟩) else 4294967295#32 :=
    funext fun t => rowV_apply c arg7 harg7 arg11 x5 h t
  unfold wNext vertP
  rw [e, hit_pad (fun t : Fin 200 => x5 (ix3 0 h t)) k (by omega) (by omega), hit_pad (fun t : Fin 200 => x5 (ix3 0 h t)) (k + 1) (by omega) (by omega)]

/-- A line of a head's slash words. -/
theorem rowW_apply (h d : Fin 8) (b : Fin 128) : rowW (F := Ideal) c arg8 harg8 arg10 arg12 x6 h d (ix3 0 0 b)
    = wBack (slashP x6 h) (128 * d.val + b.val) := by
  unfold rowW
  have hh := h.isLt
  have hd := d.isLt
  have hb := b.isLt
  rw [readCov_apply _ _ _ _ (y := ix3 h d b) (idx_ext3 (by rw [unit_idx]; rfl) (by rw [unit_idx]; rfl) (by rw [unit_idx]; exact Nat.zero_add _)), w_list]
  rw [View.canon_apply_of_pieces (fun y : S8x8x128.Idx => wBack (slashP x6 (f8 (y 0).val)) (128 * (y 1).val + (y 2).val))]
  · show wBack (slashP x6 (f8 h.val)) _ = _
    rw [show f8 h.val = h from Fin.ext (Nat.mod_eq_of_lt hh)]; rfl
  · intro p hp x
    obtain ⟨h', -, rfl⟩ := List.mem_map.1 hp
    have hh' := h'.isLt
    refine (wTile_apply _ x).trans ?_
    have h1 : (x 1).val < 8 := (x 1).isLt
    have h2 : (x 2).val < 128 := (x 2).isLt
    have h0 : (x 0).val < 1 := (x 0).isLt
    rw [wBack_rowS _ _ _ _ _ _ _ (by omega)]
    have e0 : ((wPiece (F := Ideal) c arg8 harg8 arg10 x6 h').1.emb x 0).val = h'.val + (x 0).val := by show h'.val + 1 * (x 0).val = _; omega
    have e1 : ((wPiece (F := Ideal) c arg8 harg8 arg10 x6 h').1.emb x 1).val = (x 1).val := by show 0 + 1 * (x 1).val = _; omega
    have e2 : ((wPiece (F := Ideal) c arg8 harg8 arg10 x6 h').1.emb x 2).val = (x 2).val := by show 0 + 1 * (x 2).val = _; omega
    have ef : f8 (h'.val + (x 0).val) = h' := Fin.ext (by show (h'.val + (x 0).val) % 8 = h'.val; omega)
    dsimp only
    rw [e0, e1, e2, ef]
  · exact ⟨_, List.mem_map.2 ⟨h, mem_down8 h, rfl⟩, mem3 (inb := inb3 (by omega) (by omega) (by omega)) ⟨le_refl _, Nat.lt_succ_self _⟩ ⟨Nat.zero_le _, by show d.val < 0 + 8; omega⟩ ⟨Nat.zero_le _, by show b.val < 0 + 128; omega⟩⟩

end Masks
end Cert.KernelIdeal.VS

end
-- ==== Proof.Strips.lean ====
/- The strips of slash words, rotated to one diagonal of tiles each, and the columns of vertical words. -/
module

public import proofs.«01_k».proof.Proof.Rows
public import Idealize.ShloMosaic.Lib.Pointwise
public import Idealize.ShloMosaic.Lib.BitcastPair

@[expose] public section

set_option maxRecDepth 16384

noncomputable section

namespace Cert.KernelIdeal.VS

open Idealize.ShloMosaic Idealize.ShloMosaic.TcCoe Idealize.ShloMosaic.Tactic Idealize.SL.Sem Cert.KernelIdeal Cert.KernelIdeal.Gen
open Cert.KernelIdeal.Gen.kernelRun0_A

section Masks

variable (c : Dev nD) (arg7 : Memref sig .tc .vmem S1x8x200 .i32) (harg7 : arg7.IsWhole) (arg8 : Memref sig .tc .vmem S1x8x600 .i32) (harg8 : arg8.IsWhole) (arg10 : Memref sig .tc .vmem S8x640 .i32) (arg11 : Memref sig .tc .vmem S8x256 .i32) (arg12 : Memref sig .tc .vmem S8x8x128 .i32) (arg13 : Memref sig .tc .vmem S128x128 .i32) (arg14 : Memref sig .tc .vmem S8x8x64x128 .i32) (arg15 : Memref sig .tc .vmem S8x8x64x128 .i32) (x5 : Vec Ideal S1x8x200 .i32) (x6 : Vec Ideal S1x8x600 .i32)

/-- The word of a strip: that of the offset of the key at its row below, masked where the offset is negative. -/
def stripF (p : ℕ → Bool) (d r l : ℕ) : BitVec 32 := if 2 * r ≤ 128 * d + l then wBack p (128 * d + l - 2 * r) else wd false false

theorem rot_apply (g : Fin 8) (row : Vec Ideal S1x1x128 .i32) (r : Fin 8) (l : Fin 128) :
    rot (F := Ideal) g row (ix2 r l) = row (ix3 0 0 ⟨(l.val + 128 - (16 * g.val + 2 * r.val)) % 128, Nat.mod_lt _ (by omega)⟩) := by
  unfold rot dynamicRotate
  pointwise []
  refine congrArg row (idx_ext3 rfl rfl ?_)
  have hg := g.isLt
  have hr := r.isLt
  have e : (BitVec.ofNat 32 (16 * g.val)).toNat = 16 * g.val := by rw [BitVec.toNat_ofNat, Nat.mod_eq_of_lt (by omega)]
  show (l.val + 128 - ((BitVec.ofNat 32 (16 * g.val)).toNat + 2 * r.val) % 128) % 128 = _
  rw [e, Nat.mod_eq_of_lt (a := 16 * g.val + 2 * r.val) (by omega)]

theorem stripTile_apply (g : Fin 8) (n b : IVec S8x128 32) (r : Fin 8) (l : Fin 128) :
    stripTile g n b (ix4 0 0 r l) = if 16 * g.val + 2 * r.val ≤ l.val then n (ix2 r l) else b (ix2 r l) := by
  pointwise [stripTile, keep, lane8, sub8]
  have hg := g.isLt
  have hr := r.isLt
  have hl := l.isLt
  have e : IntOp.addi (BitVec.ofNat 32 (16 * g.val)) (IntOp.muli (2#32) (BitVec.ofNat 32 r.val)) = BitVec.ofNat 32 (16 * g.val + 2 * r.val) := by
    show BitVec.ofNat 32 (16 * g.val) + BitVec.ofNat 32 2 * BitVec.ofNat 32 r.val = _
    rw [← BitVec.ofNat_mul, ← BitVec.ofNat_add]
  rw [e]
  have ti : ∀ n : ℕ, n < 256 → (BitVec.ofNat 32 n).toInt = n := by
    intro n hn
    rw [BitVec.toInt_eq_toNat_cond, BitVec.toNat_ofNat, Nat.mod_eq_of_lt (by omega), if_pos (by omega)]
  have hs : IntOp.cmpi .sge (BitVec.ofNat 32 l.val) (BitVec.ofNat 32 (16 * g.val + 2 * r.val)) = BitVec.ofBool (decide (16 * g.val + 2 * r.val ≤ l.val)) := by
    show BitVec.ofBool ((BitVec.ofNat 32 (16 * g.val + 2 * r.val)).sle (BitVec.ofNat 32 l.val)) = _
    rw [BitVec.sle_eq_decide, ti _ (by omega), ti _ (by omega)]
    congr 1
    exact decide_eq_decide.2 Nat.cast_le
  rw [hs]
  unfold Scalar.select
  by_cases h : 16 * g.val + 2 * r.val ≤ l.val
  · rw [if_pos h, decide_eq_true h]; rfl
  · rw [if_neg h, decide_eq_false h]; rfl

theorem stripPiece_apply (h g d : Fin 8) (x : S1x1x8x128.Idx) :
    (stripPiece (F := Ideal) c arg8 harg8 arg10 arg12 x6 h g d).2 x = stripF (slashP x6 h) d.val (8 * g.val + (x 2).val) (x 3).val := by
  idx_vars x
  have hg := g.isLt
  have hd := d.isLt
  have hr := x2.isLt
  have hl := x3.isLt
  rw [show (ix4 x0 x1 x2 x3 : S1x1x8x128.Idx) = ix4 0 0 x2 x3 from idx_ext4 (by show x0.val = 0; omega) (by show x1.val = 0; omega) rfl rfl]
  refine (stripTile_apply g _ _ x2 x3).trans ?_
  rw [rot_apply, rowW_apply]
  show _ = stripF (slashP x6 h) d.val (8 * g.val + x2.val) x3.val
  unfold stripF
  dsimp only
  by_cases hk : 16 * g.val + 2 * x2.val ≤ x3.val
  · rw [if_pos hk, if_pos (by omega)]
    congr 1
    omega
  · rw [if_neg hk]
    obtain ⟨_ | e, he⟩ := d
    · rw [if_neg (by dsimp only; omega)]
      rfl
    · show rot (F := Ideal) g (rowW (F := Ideal) c arg8 harg8 arg10 arg12 x6 h ⟨e, by omega⟩) (ix2 x2 x3) = _
      rw [rot_apply, rowW_apply, if_pos (by dsimp only; omega)]
      congr 1
      dsimp only
      omega

/-- A strip tile. -/
theorem stripLoad_apply (h d : Fin 8) (r : Fin 64) (l : Fin 128) :
    stripLoad (F := Ideal) c arg8 harg8 arg10 arg12 arg14 x6 h d (ix4 0 0 r l) = stripF (slashP x6 h) d.val r.val l.val := by
  unfold stripLoad
  have hh := h.isLt
  have hd := d.isLt
  have hr := r.isLt
  have hl := l.isLt
  rw [readCov_apply _ _ _ _ (y := ix4 h d r l) (idx_ext4 (by rw [unit_idx]; rfl) (by rw [unit_idx]; rfl) (by rw [unit_idx]; exact Nat.zero_add _) (by rw [unit_idx]; exact Nat.zero_add _)), strip_list]
  rw [View.canon_apply_of_pieces (fun y : S8x8x64x128.Idx => stripF (slashP x6 (f8 (y 0).val)) (y 1).val (y 2).val (y 3).val)]
  · show stripF (slashP x6 (f8 h.val)) _ _ _ = _
    rw [show f8 h.val = h from Fin.ext (Nat.mod_eq_of_lt hh)]; rfl
  · intro p hp x
    obtain ⟨h', -, hp⟩ := List.mem_flatMap.1 hp
    obtain ⟨g', -, hp⟩ := List.mem_flatMap.1 hp
    obtain ⟨d', -, rfl⟩ := List.mem_map.1 hp
    have hh' := h'.isLt
    refine (stripPiece_apply c arg8 harg8 arg10 arg12 x6 h' g' d' x).trans ?_
    have h0 : (x 0).val < 1 := (x 0).isLt
    have h1 : (x 1).val < 1 := (x 1).isLt
    have e0 : ((stripPiece (F := Ideal) c arg8 harg8 arg10 arg12 x6 h' g' d').1.emb x 0).val = h'.val + (x 0).val := by show h'.val + 1 * (x 0).val = _; omega
    have e1 : ((stripPiece (F := Ideal) c arg8 harg8 arg10 arg12 x6 h' g' d').1.emb x 1).val = d'.val := by show d'.val + 1 * (x 1).val = _; omega
    have e2 : ((stripPiece (F := Ideal) c arg8 harg8 arg10 arg12 x6 h' g' d').1.emb x 2).val = 8 * g'.val + (x 2).val := by show 8 * g'.val + 1 * (x 2).val = _; omega
    have e3 : ((stripPiece (F := Ideal) c arg8 harg8 arg10 arg12 x6 h' g' d').1.emb x 3).val = (x 3).val := by show 0 + 1 * (x 3).val = _; omega
    have ef : f8 (h'.val + (x 0).val) = h' := Fin.ext (by show (h'.val + (x 0).val) % 8 = h'.val; omega)
    dsimp only
    rw [e0, e1, e2, e3, ef]
  · exact ⟨_, List.mem_flatMap.2 ⟨h, mem_down8 h, List.mem_flatMap.2 ⟨⟨r.val / 8, by omega⟩, mem_down8 _, List.mem_map.2 ⟨d, mem_down8 d, rfl⟩⟩⟩,
      mem4 (inb := inb4 (by omega) (by omega) (by dsimp only; omega) (by omega)) ⟨le_refl _, Nat.lt_succ_self _⟩ ⟨le_refl _, Nat.lt_succ_self _⟩
        ⟨by show 8 * (r.val / 8) ≤ r.val; omega, by show r.val < 8 * (r.val / 8) + 8; omega⟩ ⟨Nat.zero_le _, by show l.val < 0 + 128; omega⟩⟩

/-- The vertical words, keys down. -/
theorem pairT_apply (h j : Fin 8) (k : Fin 128) (hk : k.val + 1 < 128) :
    pairT (F := Ideal) c arg7 harg7 arg11 arg13 x5 (ix2 k ⟨8 * h.val + j.val, by omega⟩) = wNext (vertP x5 h) (128 * j.val + k.val) := by
  have hh := h.isLt
  have hj := j.isLt
  unfold pairT
  pointwise [k0_pay67]
  rw [readCov_apply _ _ _ _ (y := ix2 ⟨8 * h.val + j.val, by omega⟩ k) (idx_ext2 (by rw [unit_idx]; exact Nat.zero_add _) (by rw [unit_idx]; exact Nat.zero_add _)), pair_list]
  rw [View.canon_cons_of_not_mem]
  · have hm : ∃ p ∈ down8.map (pairPiece (F := Ideal) c arg7 harg7 arg11 x5), (ix2 ⟨8 * h.val + j.val, by omega⟩ k : S128x128.Idx) ∈ p.1.set :=
      ⟨_, List.mem_map.2 ⟨h, mem_down8 h, rfl⟩, mem2 (inb := inb2 (by omega) (by omega))
        ⟨by show 8 * h.val ≤ 8 * h.val + j.val; omega, by show 8 * h.val + j.val < 8 * h.val + 8; omega⟩ ⟨Nat.zero_le _, by show k.val < 0 + 128; omega⟩⟩
    rw [View.canon_apply_of_pieces (fun y : S128x128.Idx => pTile (F := Ideal) (rowV c arg7 harg7 arg11 x5 (f8 ((y 0).val / 8))) (ix2 (f8 (y 0).val) ⟨(y 1).val % 128, Nat.mod_lt _ (by omega)⟩)) _ _ _ hm]
    · have e1 : f8 ((8 * h.val + j.val) / 8) = h := Fin.ext (by show (8 * h.val + j.val) / 8 % 8 = h.val; omega)
      have e2 : f8 (8 * h.val + j.val) = j := Fin.ext (by show (8 * h.val + j.val) % 8 = j.val; omega)
      have e3 : (⟨k.val % 128, Nat.mod_lt _ (by omega)⟩ : Fin 128) = k := Fin.ext (Nat.mod_eq_of_lt k.isLt)
      show pTile (F := Ideal) (rowV c arg7 harg7 arg11 x5 (f8 ((8 * h.val + j.val) / 8))) (ix2 (f8 (8 * h.val + j.val)) ⟨k.val % 128, _⟩) = _
      rw [e1, e2, e3, pTile_apply _ _ _ hk]
      exact wNext_rowV c arg7 harg7 arg11 x5 h _ (by omega)
    · intro p hp x
      obtain ⟨h', -, rfl⟩ := List.mem_map.1 hp
      have hh' := h'.isLt
      have h0 : (x 0).val < 8 := (x 0).isLt
      have h1 : (x 1).val < 128 := (x 1).isLt
      have e0 : ((pairPiece (F := Ideal) c arg7 harg7 arg11 x5 h').1.emb x 0).val = 8 * h'.val + (x 0).val := by show 8 * h'.val + 1 * (x 0).val = _; omega
      have e1 : ((pairPiece (F := Ideal) c arg7 harg7 arg11 x5 h').1.emb x 1).val = (x 1).val := by show 0 + 1 * (x 1).val = _; omega
      have ef : f8 ((8 * h'.val + (x 0).val) / 8) = h' := Fin.ext (by show (8 * h'.val + (x 0).val) / 8 % 8 = h'.val; omega)
      dsimp only
      simp only [e0, e1, ef]
      refine congrArg (pTile (F := Ideal) (rowV c arg7 harg7 arg11 x5 h')) (idx_ext2 (n0 := 8) (n1 := 128) ?_ ?_)
      · show (x 0).val = (8 * h'.val + (x 0).val) % 8; omega
      · show (x 1).val = (x 1).val % 128; omega
  · intro hm
    have := ((Rect.mem_set_unit (inb := inb2 (by omega) (by omega))).1 hm 0).1
    have h2 : 64 ≤ 8 * h.val + j.val := this
    omega

end Masks
end Cert.KernelIdeal.VS

end
-- ==== Proof.Masks.lean ====
/- The masks of a tile: which of its queries attend which of its keys, read from the words. -/
module

public import proofs.«01_k».proof.Proof.Strips
public import Idealize.ShloMosaic.Lib.Pointwise
public import Idealize.ShloMosaic.Lib.BitcastPair

@[expose] public section

set_option maxRecDepth 16384

noncomputable section

namespace Cert.KernelIdeal.VS

open Idealize.ShloMosaic Idealize.ShloMosaic.TcCoe Idealize.ShloMosaic.Tactic Idealize.SL.Sem Cert.KernelIdeal Cert.KernelIdeal.Gen
open Cert.KernelIdeal.Gen.kernelRun0_A

/-- Whether a head lets a query attend a key: not a later one, and at one of its slash offsets or a vertical one. -/
def allow (s v : ℕ → Bool) (q k : ℕ) : Bool := decide (k ≤ q) && (s (q - k) || v k)

/-- The additive mask reads its words' halves. -/
theorem mask_apply (w : IVec S64x128 32) (k l : Fin 128) : mask (F := Ideal) w (ix2 k l)
    = if (w (ix2 ⟨k.val / 2, by omega⟩ l)).extractLsb' (16 * (k.val % 2)) 16 = 0#16 then 0 else ⊥ := by
  have hm : (Named.named κ "masked" 0xFB80#16 : Ideal .bf16) = ⊥ := IdealRules.named_const.ideal_named_scalar _ _ _ _ rfl
  unfold mask
  rw [hm]
  pointwise []
  rw [bitcast_32_16]
  have er : S128x128.row (ix2 k l) = k.val := rfl
  have e : (bitcasts_S64x128_w32_S128x128_w16 : S64x128.Bitcasts 32 S128x128 16).srcIdx (ix2 k l) (S128x128.row (ix2 k l) / 2) (fun a ha => by
        have := bitcasts_S64x128_w32_S128x128_w16.pos_lt (ix2 k l) 0 (by decide) a ha; omega) = ix2 ⟨k.val / 2, by omega⟩ l := idx_ext2 rfl rfl
  rw [e, er]
  unfold Scalar.select IntOp.cmpi
  by_cases h : (w (ix2 ⟨k.val / 2, by omega⟩ l)).extractLsb' (16 * (k.val % 2)) 16 = 0#16
  · rw [if_pos h, h]; rfl
  · rw [if_neg h, show ((w (ix2 ⟨k.val / 2, by omega⟩ l)).extractLsb' (16 * (k.val % 2)) 16 == 0#16) = false from by simpa using h]; rfl

section Masks

variable (c : Dev nD) (arg7 : Memref sig .tc .vmem S1x8x200 .i32) (harg7 : arg7.IsWhole) (arg8 : Memref sig .tc .vmem S1x8x600 .i32) (harg8 : arg8.IsWhole) (arg10 : Memref sig .tc .vmem S8x640 .i32) (arg11 : Memref sig .tc .vmem S8x256 .i32) (arg12 : Memref sig .tc .vmem S8x8x128 .i32) (arg13 : Memref sig .tc .vmem S128x128 .i32) (arg14 : Memref sig .tc .vmem S8x8x64x128 .i32) (arg15 : Memref sig .tc .vmem S8x8x64x128 .i32) (x5 : Vec Ideal S1x8x200 .i32) (x6 : Vec Ideal S1x8x600 .i32)

/-- A tile of vertical words. -/
theorem vtPiece_apply (h j : Fin 8) (x : S1x1x64x128.Idx) :
    (vtPiece (F := Ideal) c arg7 harg7 arg11 arg13 x5 h j).2 x = wNext (vertP x5 h) (128 * j.val + 2 * (x 2).val) := by
  idx_vars x
  have hh := h.isLt
  have hj := j.isLt
  have hr := x2.isLt
  rw [show (ix4 x0 x1 x2 x3 : S1x1x64x128.Idx) = ix4 0 0 x2 x3 from idx_ext4 (by show x0.val = 0; omega) (by show x1.val = 0; omega) rfl rfl]
  have e1 : vtTile (F := Ideal) ⟨8 * h.val + j.val, by omega⟩ (sl.v577 (F := Ideal) c arg7 harg7 arg11 arg13 x5) (ix4 0 0 x2 x3)
      = sl.v577 (F := Ideal) c arg7 harg7 arg11 arg13 x5 (ix2 x2 ⟨8 * h.val + j.val, by omega⟩) := by
    pointwise [vtTile]
  refine Eq.trans e1 ?_
  unfold sl.v577
  rw [readCov_apply _ _ _ _ (y := ix2 ⟨2 * x2.val, by omega⟩ ⟨8 * h.val + j.val, by omega⟩) (idx_ext2 (by show 0 + 2 * x2.val = 2 * x2.val; omega) (by show 0 + 1 * (8 * h.val + j.val) = 8 * h.val + j.val; omega)), pairT_list]
  rw [show (ix2 ⟨2 * x2.val, by omega⟩ ⟨8 * h.val + j.val, by omega⟩ : S128x128.Idx) = (Rect.unit (s := S128x128) ![0, 0] S128x128.size (inb2 (by omega) (by omega))).emb (ix2 ⟨2 * x2.val, by omega⟩ ⟨8 * h.val + j.val, by omega⟩)
      from (idx_ext2 (by rw [unit_emb]; exact Nat.zero_add _) (by rw [unit_emb]; exact Nat.zero_add _)).symm, View.canon_cons_emb]
  exact pairT_apply c arg7 harg7 arg11 arg13 x5 h j ⟨2 * x2.val, by omega⟩ (by dsimp only; omega)
theorem vtLoad_apply (h j : Fin 8) (r : Fin 64) (l : Fin 128) :
    vtLoad (F := Ideal) c arg7 harg7 arg11 arg13 arg15 x5 h j (ix4 0 0 r l) = wNext (vertP x5 h) (128 * j.val + 2 * r.val) := by
  unfold vtLoad
  have hh := h.isLt
  have hd := j.isLt
  have hr := r.isLt
  have hl := l.isLt
  rw [readCov_apply _ _ _ _ (y := ix4 h j r l) (idx_ext4 (by rw [unit_idx]; rfl) (by rw [unit_idx]; rfl) (by rw [unit_idx]; exact Nat.zero_add _) (by rw [unit_idx]; exact Nat.zero_add _)), vt_list]
  rw [View.canon_apply_of_pieces (fun y : S8x8x64x128.Idx => wNext (vertP x5 (f8 (y 0).val)) (128 * (y 1).val + 2 * (y 2).val))]
  · show wNext (vertP x5 (f8 h.val)) _ = _
    rw [show f8 h.val = h from Fin.ext (Nat.mod_eq_of_lt hh)]; rfl
  · intro p hp x
    obtain ⟨h', -, hp⟩ := List.mem_flatMap.1 hp
    obtain ⟨j', -, rfl⟩ := List.mem_map.1 hp
    have hh' := h'.isLt
    refine (vtPiece_apply c arg7 harg7 arg11 arg13 x5 h' j' x).trans ?_
    have h0 : (x 0).val < 1 := (x 0).isLt
    have h1 : (x 1).val < 1 := (x 1).isLt
    have e0 : ((vtPiece (F := Ideal) c arg7 harg7 arg11 arg13 x5 h' j').1.emb x 0).val = h'.val + (x 0).val := by show h'.val + 1 * (x 0).val = _; omega
    have e1 : ((vtPiece (F := Ideal) c arg7 harg7 arg11 arg13 x5 h' j').1.emb x 1).val = j'.val := by show j'.val + 1 * (x 1).val = _; omega
    have e2 : ((vtPiece (F := Ideal) c arg7 harg7 arg11 arg13 x5 h' j').1.emb x 2).val = (x 2).val := by show 0 + 1 * (x 2).val = _; omega
    have ef : f8 (h'.val + (x 0).val) = h' := Fin.ext (by show (h'.val + (x 0).val) % 8 = h'.val; omega)
    dsimp only
    rw [e0, e1, e2, ef]
  · exact ⟨_, List.mem_flatMap.2 ⟨h, mem_down8 h, List.mem_map.2 ⟨j, mem_down8 j, rfl⟩⟩,
      mem4 (inb := inb4 (by omega) (by omega) (by omega) (by omega)) ⟨le_refl _, Nat.lt_succ_self _⟩ ⟨le_refl _, Nat.lt_succ_self _⟩
        ⟨Nat.zero_le _, by show r.val < 0 + 64; omega⟩ ⟨Nat.zero_le _, by show l.val < 0 + 128; omega⟩⟩

theorem wOff_apply (st vt : Vec Ideal S1x1x64x128 .i32) (r : Fin 64) (l : Fin 128) :
    wOff (F := Ideal) st vt (ix2 r l) = st (ix4 0 0 r l) &&& vt (ix4 0 0 r l) := by
  pointwise [wOff]
  rfl
theorem diag_apply (r : Fin 64) (l : Fin 128) : k0_pay1354 k0_pay1352 k0_pay1353 (ix2 r l) = wd (decide (2 * r.val ≤ l.val)) (decide (2 * r.val + 1 ≤ l.val)) := by
  pointwise [k0_pay1354, k0_pay1352, k0_pay1353]
  have hr := r.isLt
  have hl := l.isLt
  have e : IntOp.muli (2#32) (BitVec.ofNat 32 r.val) = BitVec.ofNat 32 (2 * r.val) := by
    show BitVec.ofNat 32 2 * BitVec.ofNat 32 r.val = _
    rw [← BitVec.ofNat_mul]
  have e' : IntOp.addi (BitVec.ofNat 32 (2 * r.val)) 1#32 = BitVec.ofNat 32 (2 * r.val + 1) := by
    show BitVec.ofNat 32 _ + BitVec.ofNat 32 1 = _
    rw [← BitVec.ofNat_add]
  have ti : ∀ n : ℕ, n < 256 → (BitVec.ofNat 32 n).toInt = n := by
    intro n hn
    rw [BitVec.toInt_eq_toNat_cond, BitVec.toNat_ofNat, Nat.mod_eq_of_lt (by omega), if_pos (by omega)]
  have hs : ∀ n : ℕ, n < 256 → Scalar.select (IntOp.cmpi .slt (BitVec.ofNat 32 l.val) (BitVec.ofNat 32 n)) 64384#32 0#32 = nb (decide (n ≤ l.val)) := by
    intro n hn
    have : IntOp.cmpi .slt (BitVec.ofNat 32 l.val) (BitVec.ofNat 32 n) = BitVec.ofBool (decide (l.val < n)) := by
      show BitVec.ofBool ((BitVec.ofNat 32 l.val).slt (BitVec.ofNat 32 n)) = _
      rw [BitVec.slt_eq_decide, ti _ (by omega), ti _ (by omega)]
      congr 1
      exact decide_eq_decide.2 Nat.cast_lt
    rw [this]
    unfold Scalar.select nb
    by_cases h : n ≤ l.val
    · rw [decide_eq_true h, decide_eq_false (by omega)]; rfl
    · rw [decide_eq_false h, decide_eq_true (by omega)]; rfl
  rw [e, e', hs _ (by omega), hs _ (by omega), ori_shli]

/-- The mask of a head at a tile of queries and one of keys. -/
theorem mask_words (h t j : Fin 8) (hj : j.val ≤ t.val) (k l : Fin 128) :
    mask (F := Ideal) (words (F := Ideal) c arg7 harg7 arg8 harg8 arg10 arg11 arg12 arg13 arg14 arg15 x5 x6 h t j) (ix2 k l)
      = if allow (slashP x6 h) (vertP x5 h) (128 * t.val + l.val) (128 * j.val + k.val) = true then 0 else ⊥ := by
  rw [mask_apply]
  have ht := t.isLt
  have hk := k.isLt
  have hl := l.isLt
  refine if_congr ?_ rfl rfl
  unfold words
  by_cases hjt : j.val = t.val
  · rw [if_pos hjt]
    have e : wDiag (F := Ideal) (stripLoad c arg8 harg8 arg10 arg12 arg14 x6 h 0) (vtLoad c arg7 harg7 arg11 arg13 arg15 x5 h j) (ix2 ⟨k.val / 2, by omega⟩ l)
        = (stripF (slashP x6 h) 0 (k.val / 2) l.val &&& wNext (vertP x5 h) (128 * j.val + 2 * (k.val / 2))) ||| wd (decide (2 * (k.val / 2) ≤ l.val)) (decide (2 * (k.val / 2) + 1 ≤ l.val)) := by
      rw [← vtLoad_apply c arg7 harg7 arg11 arg13 arg15 x5 h j ⟨k.val / 2, by omega⟩ l]
      rw [show stripF (slashP x6 h) 0 (k.val / 2) l.val = _ from (stripLoad_apply c arg8 harg8 arg10 arg12 arg14 x6 h 0 ⟨k.val / 2, by omega⟩ l).symm]
      rw [← wOff_apply, ← diag_apply ⟨k.val / 2, by omega⟩ l]
      rfl
    rw [e]
    unfold stripF wBack wNext allow
    rw [hjt]
    by_cases hs : k.val % 2 = 0
    · by_cases hc : 2 * (k.val / 2) ≤ 128 * 0 + l.val
      · rw [if_pos hc, wd_and, wd_or, wd_half _ _ _ (Nat.mod_lt _ (by omega)), if_pos hs]
        rw [show 128 * 0 + l.val - 2 * (k.val / 2) = 128 * t.val + l.val - (128 * t.val + k.val) by omega, show 128 * t.val + 2 * (k.val / 2) = 128 * t.val + k.val by omega]
        rw [decide_eq_true (show 2 * (k.val / 2) ≤ l.val by omega), decide_eq_true (show 128 * t.val + k.val ≤ 128 * t.val + l.val by omega), Bool.and_true, Bool.true_and]
      · rw [if_neg hc, wd_and, wd_or, wd_half _ _ _ (Nat.mod_lt _ (by omega)), if_pos hs]
        rw [decide_eq_false (show ¬ 2 * (k.val / 2) ≤ l.val by omega), decide_eq_false (show ¬ 128 * t.val + k.val ≤ 128 * t.val + l.val by omega), Bool.and_false, Bool.false_and]
    · by_cases hc : 2 * (k.val / 2) + 1 ≤ l.val
      · rw [if_pos (by omega), wd_and, wd_or, wd_half _ _ _ (Nat.mod_lt _ (by omega)), if_neg hs]
        rw [show 128 * 0 + l.val - 2 * (k.val / 2) - 1 = 128 * t.val + l.val - (128 * t.val + k.val) by omega, show 128 * t.val + 2 * (k.val / 2) + 1 = 128 * t.val + k.val by omega]
        rw [decide_eq_true (show 2 * (k.val / 2) + 1 ≤ l.val by omega), decide_eq_true (show 128 * t.val + k.val ≤ 128 * t.val + l.val by omega), Bool.and_true, Bool.true_and,
          decide_eq_true (show 128 * 0 + l.val - 2 * (k.val / 2) ≠ 0 by omega), Bool.true_and]
      · by_cases hd : 2 * (k.val / 2) ≤ 128 * 0 + l.val
        · rw [if_pos hd, wd_and, wd_or, wd_half _ _ _ (Nat.mod_lt _ (by omega)), if_neg hs]
          rw [decide_eq_false hc, decide_eq_false (show ¬ 128 * t.val + k.val ≤ 128 * t.val + l.val by omega), Bool.and_false, Bool.false_and]
        · rw [if_neg hd, wd_and, wd_or, wd_half _ _ _ (Nat.mod_lt _ (by omega)), if_neg hs]
          rw [decide_eq_false hc, decide_eq_false (show ¬ 128 * t.val + k.val ≤ 128 * t.val + l.val by omega), Bool.and_false, Bool.false_and]
  · rw [if_neg hjt, wOff_apply, stripLoad_apply, vtLoad_apply]
    have ed : (f8 (t.val - j.val)).val = t.val - j.val := Nat.mod_eq_of_lt (by omega)
    rw [ed]
    unfold stripF wBack wNext
    dsimp only
    rw [if_pos (by omega), wd_and, wd_half _ _ _ (Nat.mod_lt _ (by omega))]
    unfold allow
    rw [decide_eq_true (show 128 * j.val + k.val ≤ 128 * t.val + l.val by omega), Bool.true_and]
    by_cases hs : k.val % 2 = 0
    · rw [if_pos hs]
      rw [show 128 * (t.val - j.val) + l.val - 2 * (k.val / 2) = 128 * t.val + l.val - (128 * j.val + k.val) by omega, show 128 * j.val + 2 * (k.val / 2) = 128 * j.val + k.val by omega]
    · rw [if_neg hs]
      rw [show 128 * (t.val - j.val) + l.val - 2 * (k.val / 2) - 1 = 128 * t.val + l.val - (128 * j.val + k.val) by omega, show 128 * j.val + 2 * (k.val / 2) + 1 = 128 * j.val + k.val by omega]
      rw [decide_eq_true (show 128 * (t.val - j.val) + l.val - 2 * (k.val / 2) ≠ 0 by omega), Bool.true_and]

end Masks
end Cert.KernelIdeal.VS

end
-- ==== Proof.Math.lean ====
/- The softmax identity on the extended reals, away from any program.

   Both programs weigh the keys by a softmax of masked scores. One multiplies the score by the key's scale inside the
   product, masks by adding `⊥`, and exponentiates in base two a prefix of the keys; the other multiplies outside,
   masks by replacing with `⊥`, and exponentiates in base `e` over all keys. This module proves the two weighted sums
   equal for arbitrary (also infinite) scores and values, the key scales being nonnegative and finite. -/
module

public import Idealize.ShloMosaic.PureOps.Ideal.Laws

@[expose] public section

noncomputable section

namespace VS

open Idealize.ShloMosaic

/-- A nonnegative finite factor goes into a sum. -/
theorem mul_sum {ι : Type} (s : Finset ι) (f : ι → EReal) {a : EReal} (ha : 0 ≤ a) (ha' : a ≠ ⊤) :
    a * ∑ i ∈ s, f i = ∑ i ∈ s, a * f i := by
  classical
  induction s using Finset.induction_on with
  | empty => simp
  | insert i s hi ih =>
    rw [Finset.sum_insert hi, Finset.sum_insert hi, EReal.left_distrib_of_nonneg_of_ne_top ha ha', ih]

theorem sum_mul {ι : Type} (s : Finset ι) (f : ι → EReal) {a : EReal} (ha : 0 ≤ a) (ha' : a ≠ ⊤) :
    (∑ i ∈ s, f i) * a = ∑ i ∈ s, f i * a := by
  rw [mul_comm, mul_sum s f ha ha']
  exact Finset.sum_congr rfl fun i _ => mul_comm _ _

/-- A positive real factor moves across an inequality. -/
theorem mul_le_iff {r : ℝ} (hr : 0 < r) (a x : EReal) : (r : EReal) * a ≤ x ↔ a ≤ ((r⁻¹ : ℝ) : EReal) * x := by
  have h1 : (0 : EReal) ≤ (r : EReal) := by exact_mod_cast hr.le
  have h2 : (0 : EReal) ≤ ((r⁻¹ : ℝ) : EReal) := by exact_mod_cast (inv_pos.2 hr).le
  have e : ((r⁻¹ : ℝ) : EReal) * (r : EReal) = 1 := by
    rw [← EReal.coe_mul, inv_mul_cancel₀ hr.ne']; rfl
  constructor
  · intro h
    have := mul_le_mul_of_nonneg_left h h2
    rwa [← mul_assoc, e, one_mul] at this
  · intro h
    have := mul_le_mul_of_nonneg_left h h1
    rwa [← mul_assoc, mul_comm (r : EReal) ((r⁻¹ : ℝ) : EReal), e, one_mul] at this

/-- The difference of a score and the maximum is `⊥` or a real at most zero. -/
theorem sub_cases {a m : EReal} (h : a ≤ m) : a - m = ⊥ ∨ ∃ x : ℝ, x ≤ 0 ∧ a - m = (x : EReal) := by
  have h0 := EReal.sub_nonpos.2 h
  generalize a - m = d at h0
  induction d using EReal.rec with
  | bot => exact .inl rfl
  | top => exact absurd h0 (by decide)
  | coe x => exact .inr ⟨x, by exact_mod_cast h0, rfl⟩

/-- Base two with the scale in the exponent is base `e` of the scaled difference. -/
theorem exp2_scaled {r : ℝ} (hr : 0 < r) {a m : EReal} (h : a ≤ m) :
    Ideal.exp2 ((a - m) * ((r * (Real.log 2)⁻¹ : ℝ) : EReal)) = Ideal.exp ((r : EReal) * a - (r : EReal) * m) := by
  have hl : 0 < Real.log 2 := Real.log_pos (by norm_num)
  have hc : 0 < r * (Real.log 2)⁻¹ := by positivity
  have h1 : (0 : EReal) ≤ (r : EReal) := by exact_mod_cast hr.le
  rw [← EReal.mul_sub_of_nonneg_of_ne_top h1 (EReal.coe_ne_top r)]
  rcases sub_cases h with e | ⟨x, _, e⟩
  · rw [e, EReal.bot_mul_coe_of_pos hc, EReal.coe_mul_bot_of_pos hr]; rfl
  · rw [e, ← EReal.coe_mul, ← EReal.coe_mul, Ideal.exp2_coe, Ideal.exp_coe, Real.rpow_eq_pow,
      Real.rpow_def_of_pos (by norm_num)]
    congr 2
    field_simp

/-- An exponential of a difference from the maximum is a nonnegative real. -/
theorem exp_real {a m : EReal} (h : a ≤ m) : ∃ x : ℝ, 0 ≤ x ∧ Ideal.exp (a - m) = (x : EReal) := by
  rcases sub_cases h with e | ⟨x, _, e⟩
  · exact ⟨0, le_rfl, by rw [e]; rfl⟩
  · exact ⟨Real.exp x, (Real.exp_pos x).le, by rw [e]; rfl⟩

/-- Weighting after or before the normalisation: the denominator is a sum of nonnegative reals, so it is zero only
    when every weight is, and otherwise its reciprocal is a positive real. -/
theorem normalise (n N : ℕ) (hn : n ≤ N) (e vs vc : ℕ → EReal) (he : ∀ k, k < N → ∃ x : ℝ, 0 ≤ x ∧ e k = (x : EReal))
    (h0 : ∀ k, n ≤ k → k < N → e k = 0) :
    (∑ k ∈ Finset.range n, (vc k * vs k) * e k) * Ideal.div 1 (∑ k ∈ Finset.range n, e k)
      = ∑ k ∈ Finset.range N, ((e k * Ideal.div 1 (∑ k ∈ Finset.range N, e k)) * vs k) * vc k := by
  have cut : ∀ f : ℕ → EReal, (∀ k, n ≤ k → k < N → f k = 0) →
      ∑ k ∈ Finset.range N, f k = ∑ k ∈ Finset.range n, f k := by
    intro f hf
    symm
    refine Finset.sum_subset (fun k hk => Finset.mem_range.2 (lt_of_lt_of_le (Finset.mem_range.1 hk) hn)) ?_
    intro k hk hk'
    exact hf k (not_lt.1 fun h => hk' (Finset.mem_range.2 h)) (Finset.mem_range.1 hk)
  rw [cut e h0, cut _ (fun k h h' => by rw [h0 k h h']; simp)]
  have he' : ∀ k ∈ Finset.range n, ∃ x : ℝ, 0 ≤ x ∧ e k = (x : EReal) := fun k hk =>
    he k (lt_of_lt_of_le (Finset.mem_range.1 hk) hn)
  have hnn : ∀ k ∈ Finset.range n, 0 ≤ e k := fun k hk => by
    obtain ⟨x, hx, e1⟩ := he' k hk; rw [e1]; exact_mod_cast hx
  by_cases hz : ∑ k ∈ Finset.range n, e k = 0
  · have hall := (Finset.sum_eq_zero_iff_of_nonneg hnn).1 hz
    rw [Finset.sum_eq_zero (fun k hk => by rw [hall k hk, mul_zero]),
      zero_mul]
    exact (Finset.sum_eq_zero (fun k hk => by rw [hall k hk, zero_mul, zero_mul, zero_mul])).symm
  · obtain ⟨L, hL⟩ : ∃ L : ℝ, ∑ k ∈ Finset.range n, e k = (L : EReal) := by
      clear hz hnn
      generalize Finset.range n = s at he'
      classical
      induction s using Finset.induction_on with
      | empty => exact ⟨0, by simp⟩
      | insert i s hi ih =>
        obtain ⟨L, hL⟩ := ih fun k hk => he' k (Finset.mem_insert_of_mem hk)
        obtain ⟨x, _, hx⟩ := he' i (Finset.mem_insert_self i s)
        exact ⟨x + L, by rw [Finset.sum_insert hi, hL, hx, EReal.coe_add]⟩
    have hL0 : (0 : EReal) ≤ (L : EReal) := hL ▸ Finset.sum_nonneg hnn
    have hLp : 0 < L := lt_of_le_of_ne (by exact_mod_cast hL0) (fun h => hz (by rw [hL, ← h]; rfl))
    have hd : Ideal.div 1 (L : EReal) = ((L⁻¹ : ℝ) : EReal) := by
      unfold Ideal.div
      rw [if_neg (by exact_mod_cast hLp.ne'), one_mul, EReal.coe_inv]
    rw [hL, hd, sum_mul _ _ (by exact_mod_cast (inv_pos.2 hLp).le) (EReal.coe_ne_top _)]
    refine Finset.sum_congr rfl fun k _ => ?_
    generalize ((L⁻¹ : ℝ) : EReal) = c
    rw [mul_assoc (e k * c), mul_comm (vs k), mul_comm (e k * c), mul_assoc]

/-- The whole attention row: the kernel's spelling over a prefix `n` of the keys against the plain one over all `N`. -/
theorem attend (n N : ℕ) (hn : n ≤ N) {r : ℝ} (hr : 0 < r) (S s vs vc : ℕ → EReal) (m M : EReal)
    (hs : ∀ k, k < n → s k = (r : EReal) * S k) (hb : ∀ k, n ≤ k → k < N → s k = ⊥)
    (hm : ∀ x, m ≤ x ↔ ∀ k, k < n → S k ≤ x) (hM : ∀ x, M ≤ x ↔ ∀ k, k < N → s k ≤ x) :
    (∑ k ∈ Finset.range n, (vc k * vs k) * Ideal.exp2 ((S k - m) * ((r * (Real.log 2)⁻¹ : ℝ) : EReal)))
        * Ideal.div 1 (∑ k ∈ Finset.range n, Ideal.exp2 ((S k - m) * ((r * (Real.log 2)⁻¹ : ℝ) : EReal)))
      = ∑ k ∈ Finset.range N, ((Ideal.exp (s k - M) * Ideal.div 1 (∑ k ∈ Finset.range N, Ideal.exp (s k - M))) * vs k)
          * vc k := by
  have hmM : M = (r : EReal) * m := by
    refine eq_of_forall_ge_iff fun x => ?_
    rw [hM, mul_le_iff hr, hm]
    constructor
    · intro h k hk
      rw [← mul_le_iff hr, ← hs k hk]
      exact h k (lt_of_lt_of_le hk hn)
    · intro h k hk
      by_cases hkn : k < n
      · rw [hs k hkn, mul_le_iff hr]; exact h k hkn
      · rw [hb k (not_lt.1 hkn) hk]; exact bot_le
  have hle : ∀ k, k < n → S k ≤ m := (hm m).1 le_rfl
  have hle' : ∀ k, k < N → s k ≤ M := (hM M).1 le_rfl
  have hE : ∀ k ∈ Finset.range n, Ideal.exp2 ((S k - m) * ((r * (Real.log 2)⁻¹ : ℝ) : EReal)) = Ideal.exp (s k - M) := by
    intro k hk
    have hk := Finset.mem_range.1 hk
    rw [exp2_scaled hr (hle k hk), hs k hk, hmM]
  rw [Finset.sum_congr rfl hE, Finset.sum_congr rfl fun k hk => by rw [hE k hk]]
  exact normalise n N hn (fun k => Ideal.exp (s k - M)) vs vc (fun k hk => exp_real (hle' k hk))
    (fun k h h' => by
      show Ideal.exp (s k - M) = 0
      rw [hb k h h', EReal.bot_sub]; rfl)

/-- A sum over the columns of a wide matrix is the sum over the left part plus the sum over the right. -/
theorem sum_256 (f : Fin 256 → EReal) :
    ∑ k, f k = (∑ k : Fin 128, f ⟨k, by omega⟩) + ∑ k : Fin 128, f ⟨128 + k, by omega⟩ :=
  Fin.sum_univ_add (a := 128) (b := 128) f

/-- The identity matrix times a mask reads the mask's own row. -/
theorem sum_eye (b : Fin 128 → EReal) (r : Fin 128) :
    (∑ k : Fin 128, (if r = k then (1 : EReal) else 0) * b k) = b r := by
  rw [Finset.sum_eq_single r]
  · rw [if_pos rfl, one_mul]
  · intro k _ hk; rw [if_neg (Ne.symm hk), zero_mul]
  · intro h; exact absurd (Finset.mem_univ r) h

/-- A masked score: the mask is zero or `⊥`, and `⊥` absorbs. -/
theorem add_mask (x : EReal) (p : Prop) [Decidable p] : x + (if p then 0 else ⊥) = if p then x else ⊥ := by
  split
  · exact add_zero x
  · exact EReal.add_bot x

/-- The key's scale inside the product is the scale outside, when it is nonnegative and finite. -/
theorem dot_scale {ι : Type} [Fintype ι] (kc q : ι → EReal) {ks : EReal} (h : 0 ≤ ks) (h' : ks ≠ ⊤) :
    ∑ d, (kc d * ks) * q d = ks * ∑ d, q d * kc d := by
  rw [mul_sum _ _ h h']
  refine Finset.sum_congr rfl fun d _ => ?_
  rw [mul_comm (kc d), mul_assoc, mul_comm (kc d)]

end VS

end
-- ==== Proof.Tiles.lean ====
/- One tile of scores, and the running maximum over the tiles of a unit. -/
module

public import proofs.«01_k».proof.Proof.Masks
public import proofs.«01_k».proof.Proof.Math
public import Idealize.ShloMosaic.Lib.Pointwise
public import Idealize.ShloMosaic.Lib.BitcastPair

@[expose] public section

set_option maxRecDepth 16384

noncomputable section

namespace Cert.KernelIdeal.VS

open Idealize.ShloMosaic Idealize.ShloMosaic.TcCoe Idealize.ShloMosaic.Tactic Idealize.SL.Sem Cert.KernelIdeal Cert.KernelIdeal.Gen
open Cert.KernelIdeal.Gen.kernelRun0_A

/-! What each operation reads. -/

theorem ninf_ofBits : Ideal.ofBits FTy.f32 4286578688#32 = ⊥ := by simp [Ideal.ofBits, Ideal.ieee]

/-- The key head of a block, of the eight. -/
abbrev gh (i : grid0.Coords) (e : Fin 2) : Fin 8 := ⟨2 * (i 1).val + e.val, by have : (i 1).val < 4 := (i 1).isLt; omega⟩
theorem hb_word (i : grid0.Coords) (e : Fin 2) : Scalar.addi (Scalar.muli (hbw i) 2#32) (BitVec.ofNat 32 e.val) = BitVec.ofNat 32 (gh i e).val := by
  have h : (i 1).val < 4 := (i 1).isLt
  have he := e.isLt
  unfold hbw gh
  dsimp only
  generalize (i 1).val = n at h
  generalize e.val = k at he
  interval_cases n <;> interval_cases k <;> rfl
theorem wide_apply (i : grid0.Coords) (e : Fin 2) (code : Vec Ideal S1x128x1x128 .fp8e4m3) (s : Vec Ideal S1x128x8 .f32) (k d : Fin 128) :
    wide (F := Ideal) (hbw i) (BitVec.ofNat 32 e.val) code s (ix2 k d) = code (ix4 0 k 0 d) * s (ix3 0 k (gh i e)) := by
  pointwise [wide]
  congr 1
  rw [hb_word, Finset.sum_eq_single (gh i e)]
  · unfold Scalar.select IntOp.cmpi
    rw [show (BitVec.ofNat 32 (gh i e).val == BitVec.ofNat 32 (gh i e).val) = true from beq_self_eq_true _]; rfl
  · intro x _ hx
    have hx8 := x.isLt
    have hg8 := (gh i e).isLt
    unfold Scalar.select IntOp.cmpi
    rw [show (BitVec.ofNat 32 x.val == BitVec.ofNat 32 (gh i e).val) = false from beq_eq_false_iff_ne.2 fun h => hx (Fin.ext ((ofNat_eq (by omega) (by omega)).1 h))]; rfl
  · intro h; exact absurd (Finset.mem_univ _) h
theorem kTile_apply (hb e : BitVec 32) (code : Vec Ideal S1x128x1x128 .fp8e4m3) (s : Vec Ideal S1x128x8 .f32) (k d : Fin 128) :
    kTile (F := Ideal) hb e code s (ix3 0 k d) = wide (F := Ideal) hb e code s (ix2 k d) := by
  pointwise [kTile]
theorem vTile_apply (hb e : BitVec 32) (code : Vec Ideal S1x128x1x128 .fp8e4m3) (s : Vec Ideal S1x128x8 .f32) (k d : Fin 128) :
    vTile (F := Ideal) hb e code s (ix3 0 d k) = wide (F := Ideal) hb e code s (ix2 k d) := by
  pointwise [vTile]
theorem tmax_le (s : FVec Ideal S128x256 .f32) (r : Fin 8) (l : Fin 256) (x : EReal) :
    tmax (F := Ideal) s (ix2 r l) ≤ x ↔ ∀ t : Fin 16, s (ix2 ⟨t.val * 8 + r.val, by omega⟩ l) ≤ x := by
  pointwise [tmax]
  rw [ninf_ofBits]
  simp [Finset.fold_max_le]
theorem colMax_le (s : FVec Ideal S8x256 .f32) (l : Fin 256) (x : EReal) : colMax (F := Ideal) s (ix2 0 l) ≤ x ↔ ∀ r : Fin 8, s (ix2 r l) ≤ x := by
  pointwise [colMax]
  rw [ninf_ofBits]
  simp [Finset.fold_max_le]
/-- The exponent's scale. -/
abbrev rr : ℝ := (Real.sqrt 128)⁻¹
abbrev cc : EReal := ((rr * (Real.log 2)⁻¹ : ℝ) : EReal)
theorem named_scale : (Named.named κ "exp2_scale" 0x3E0293EE#32 : Ideal .f32) = cc := IdealRules.named_const.ideal_named_scalar _ _ _ _ rfl
theorem w256_apply (m : FVec Ideal S1x256 .f32) (s : Vec Ideal S1x256x256 .f32) (k l : Fin 256) :
    w256 (F := Ideal) m s (ix2 k l) = Ideal.exp2 ((s (ix3 0 k l) - m (ix2 0 l)) * cc) := by
  unfold w256
  rw [named_scale]
  pointwise []
  rfl
theorem w128_apply (m : FVec Ideal S1x256 .f32) (s : Vec Ideal S1x128x256 .f32) (k : Fin 128) (l : Fin 256) :
    w128 (F := Ideal) m s (ix2 k l) = Ideal.exp2 ((s (ix3 0 k l) - m (ix2 0 l)) * cc) := by
  unfold w128
  rw [named_scale]
  pointwise []
  rfl
theorem l256_sum (p : FVec Ideal S256x256 .f32) (l : Fin 256) : ∑ r, l256 (F := Ideal) p (ix2 r l) = ∑ k : Fin 256, p (ix2 k l) := by
  have e : ∀ r, l256 (F := Ideal) p (ix2 r l) = ∑ x : Fin 32, p (ix2 ⟨x.val * 8 + r.val, by omega⟩ l) := fun r => by pointwise [l256]
  rw [Finset.sum_congr rfl fun r _ => e r, Finset.sum_comm, Fin.sum_univ_tiles 32 8 rfl fun k : Fin 256 => p (ix2 k l)]
theorem l128_sum (p : FVec Ideal S128x256 .f32) (l : Fin 256) : ∑ r, l128 (F := Ideal) p (ix2 r l) = ∑ k : Fin 128, p (ix2 k l) := by
  have e : ∀ r, l128 (F := Ideal) p (ix2 r l) = ∑ x : Fin 16, p (ix2 ⟨x.val * 8 + r.val, by omega⟩ l) := fun r => by pointwise [l128]
  rw [Finset.sum_congr rfl fun r _ => e r, Finset.sum_comm, Fin.sum_univ_tiles 16 8 rfl fun k : Fin 128 => p (ix2 k l)]
theorem d256_apply (v : Vec Ideal S1x128x256 .bf16) (p : FVec Ideal S256x256 .f32) (r : Fin 128) (l : Fin 256) :
    d256 (F := Ideal) v p (ix2 r l) = ∑ k : Fin 256, v (ix3 0 r k) * p (ix2 k l) := by
  pointwise [d256]
theorem d128_apply (v : Vec Ideal S1x128x128 .bf16) (p : FVec Ideal S128x256 .f32) (r : Fin 128) (l : Fin 256) :
    d128 (F := Ideal) v p (ix2 r l) = ∑ k : Fin 128, v (ix3 0 r k) * p (ix2 k l) := by
  pointwise [d128]
theorem fin_apply (acc : FVec Ideal S128x256 .f32) (p : FVec Ideal S8x256 .f32) (r : Fin 128) (l : Fin 256) :
    fin (F := Ideal) acc p (ix2 r l) = acc (ix2 r l) * Ideal.div 1 (∑ x, p (ix2 x l)) := by
  pointwise [fin]
theorem eye_apply (k x : Fin 128) : k0_pay1351 (F := Ideal) (ix2 k x) = if k = x then 1 else 0 := by
  pointwise [k0_pay1351]
  unfold Scalar.select IntOp.cmpi
  have hk := k.isLt
  have hx := x.isLt
  by_cases h : k = x
  · subst h
    rw [if_pos rfl, show (BitVec.ofNat 32 k.val == BitVec.ofNat 32 k.val) = true from beq_self_eq_true _]; rfl
  · rw [if_neg h, show (BitVec.ofNat 32 k.val == BitVec.ofNat 32 x.val) = false from beq_eq_false_iff_ne.2 fun e => h (Fin.ext ((ofNat_eq (by omega) (by omega)).1 e))]; rfl
theorem score_lo (qt : FVec Ideal S128x256 .bf16) (w0 w1 : IVec S64x128 32) (kx : Vec Ideal S1x128x128 .bf16) (k l : Fin 128) :
    score (F := Ideal) qt w0 w1 kx (ix2 k ⟨l.val, by omega⟩) = (∑ d, kx (ix3 0 k d) * qt (ix2 d ⟨l.val, by omega⟩)) + mask (F := Ideal) w0 (ix2 k l) := by
  pointwise [score]
  simp only [eye_apply]
  rw [VS.sum_eye (fun x => mask (F := Ideal) w0 (ix2 x l)) k]
theorem score_hi (qt : FVec Ideal S128x256 .bf16) (w0 w1 : IVec S64x128 32) (kx : Vec Ideal S1x128x128 .bf16) (k l : Fin 128) :
    score (F := Ideal) qt w0 w1 kx (ix2 k ⟨128 + l.val, by omega⟩) = (∑ d, kx (ix3 0 k d) * qt (ix2 d ⟨128 + l.val, by omega⟩)) + mask (F := Ideal) w1 (ix2 k l) := by
  pointwise [score]
  simp only [eye_apply]
  rw [VS.sum_eye (fun x => mask (F := Ideal) w1 (ix2 x l)) k]
theorem q_lo (q : Vec Ideal S1x128x2x128 .bf16) (d l : Fin 128) : k0_pay1355 (F := Ideal) q (ix2 d ⟨l.val, by omega⟩) = q (ix4 0 l 0 d) := by
  pointwise [k0_pay1355]
theorem q_hi (q : Vec Ideal S1x128x2x128 .bf16) (d l : Fin 128) : k0_pay1355 (F := Ideal) q (ix2 d ⟨128 + l.val, by omega⟩) = q (ix4 0 l 1 d) := by
  pointwise [k0_pay1355]
theorem half0_apply (o : FVec Ideal S128x256 .bf16) (r d : Fin 128) : half0 (F := Ideal) o (ix3 0 r d) = o (ix2 d ⟨r.val, by omega⟩) := by
  pointwise [half0]
theorem half1_apply (o : FVec Ideal S128x256 .bf16) (r d : Fin 128) : half1 (F := Ideal) o (ix3 0 r d) = o (ix2 d ⟨128 + r.val, by omega⟩) := by
  pointwise [half1]

/-! The key and the value buffer. -/

/-- A position of the sequence. -/
abbrev f1024 (k : ℕ) : Fin 1024 := ⟨k % 1024, Nat.mod_lt _ (by omega)⟩

section Widen

variable (c : Dev nD) (i : grid0.Coords) (arg3 : Memref sig .tc .vmem S1x1024x8x128 .fp8e4m3) (harg3 : arg3.IsWhole) (arg4 : Memref sig .tc .vmem S1x1024x8 .f32) (harg4 : arg4.IsWhole) (arg16 : Memref sig .tc .vmem S2x1024x128 .bf16) (arg17 : Memref sig .tc .vmem S2x128x1024 .bf16) (x1 : Vec Ideal S1x1024x8x128 .fp8e4m3) (x2 : Vec Ideal S1x1024x8 .f32)

theorem kCode_apply (e : Fin 2) (j : Fin 8) (k d : Fin 128) : kCode (F := Ideal) i arg3 harg3 x1 e j (ix4 0 k 0 d) = x1 (ix4 0 (f1024 (128 * j.val + k.val)) (gh i e) d) := by
  unfold kCode
  rw [readAt_unread]
  congr 1
  have hj := j.isLt
  have hk := k.isLt
  have h0 := congrFun (koff_val i j e) 0
  have h1 := congrFun (koff_val i j e) 1
  have h2 := congrFun (koff_val i j e) 2
  have h3 := congrFun (koff_val i j e) 3
  refine idx_ext4 ?_ ?_ ?_ ?_
  · show koff i j e 0 + 1 * 0 = 0; rw [h0]; rfl
  · show koff i j e 1 + 1 * k.val = (128 * j.val + k.val) % 1024; rw [h1]; show 128 * j.val + 1 * k.val = _; omega
  · show koff i j e 2 + 1 * 0 = 2 * (i 1).val + e.val; rw [h2]; rfl
  · show koff i j e 3 + 1 * d.val = d.val; rw [h3]; show 0 + 1 * d.val = _; omega
theorem kScale_apply (j : Fin 8) (k : Fin 128) (g : Fin 8) : kScale (F := Ideal) arg4 harg4 x2 j (ix3 0 k g) = x2 (ix3 0 (f1024 (128 * j.val + k.val)) g) := by
  unfold kScale
  rw [readAt_unread]
  congr 1
  have hj := j.isLt
  have hk := k.isLt
  exact idx_ext3 rfl (by show 128 * j.val + 1 * k.val = (128 * j.val + k.val) % 1024; omega) (by show 0 + 1 * g.val = g.val; omega)
theorem vCode_eq (e : Fin 2) (j : Fin 8) : vCode (F := Ideal) i arg3 harg3 x1 e j = kCode (F := Ideal) i arg3 harg3 x1 e j := rfl
theorem vScale_eq (j : Fin 8) : vScale (F := Ideal) arg4 harg4 x2 j = kScale (F := Ideal) arg4 harg4 x2 j := rfl
/-- A code times its scale. -/
abbrev widened (x1 : Vec Ideal S1x1024x8x128 .fp8e4m3) (x2 : Vec Ideal S1x1024x8 .f32) (g : Fin 8) (k : ℕ) (d : Fin 128) : EReal :=
  x1 (ix4 0 (f1024 k) g d) * x2 (ix3 0 (f1024 k) g)
theorem mem_two (e : Fin 2) : e ∈ ([1, 0] : List (Fin 2)) := by fin_cases e <;> decide
theorem kBuf (y : S2x1024x128.Idx) : View.canon (sl.HS6_16 (F := Ideal) c i arg3 harg3 arg4 harg4 x1 x2) y = widened x1 x2 (gh i (y 0)) (y 1).val (y 2) := by
  rw [k_list, View.canon_apply_of_pieces (fun y : S2x1024x128.Idx => (widened x1 x2 (gh i (y 0)) (y 1).val (y 2) : EReal))]
  · intro p hp x
    obtain ⟨e, -, hp⟩ := List.mem_flatMap.1 hp
    obtain ⟨j, -, rfl⟩ := List.mem_map.1 hp
    have hx : ∀ x : S1x128x128.Idx, (kPiece (F := Ideal) i arg3 harg3 arg4 harg4 x1 x2 e j).2 x = widened x1 x2 (gh i e) (128 * j.val + (x 1).val) (x 2) := by
      intro z
      idx_vars z
      rw [show (ix3 z0 z1 z2 : S1x128x128.Idx) = ix3 0 z1 z2 from idx_ext3 (by show z0.val = 0; omega) rfl rfl]
      refine (kTile_apply _ _ _ _ _ _).trans ?_
      rw [wide_apply, kCode_apply, kScale_apply]
    refine (hx x).trans ?_
    have h0 : (x 0).val < 1 := (x 0).isLt
    have e0 : (kPiece (F := Ideal) i arg3 harg3 arg4 harg4 x1 x2 e j).1.emb x 0 = e := Fin.ext (by show e.val + 1 * (x 0).val = _; omega)
    have e1 : ((kPiece (F := Ideal) i arg3 harg3 arg4 harg4 x1 x2 e j).1.emb x 1).val = 128 * j.val + (x 1).val := by show 128 * j.val + 1 * (x 1).val = _; omega
    have e2 : (kPiece (F := Ideal) i arg3 harg3 arg4 harg4 x1 x2 e j).1.emb x 2 = x 2 := Fin.ext (by show 0 + 1 * (x 2).val = _; omega)
    dsimp only
    rw [e0, e1, e2]
  · idx_vars y
    have h1 := y1.isLt
    exact ⟨_, List.mem_flatMap.2 ⟨y0, mem_two y0, List.mem_map.2 ⟨⟨y1.val / 128, by omega⟩, mem_down8 _, rfl⟩⟩,
      mem3 (inb := inb3 (by omega) (by dsimp only; omega) (by omega)) ⟨le_refl _, Nat.lt_succ_self _⟩ ⟨by show 128 * (y1.val / 128) ≤ y1.val; omega, by show y1.val < 128 * (y1.val / 128) + 128; omega⟩
        ⟨Nat.zero_le _, by show y2.val < 0 + 128; omega⟩⟩
theorem vBuf (y : S2x128x1024.Idx) : View.canon (sl.HS7_16 (F := Ideal) c i arg3 harg3 arg4 harg4 x1 x2) y = widened x1 x2 (gh i (y 0)) (y 2).val (y 1) := by
  rw [v_list, View.canon_apply_of_pieces (fun y : S2x128x1024.Idx => (widened x1 x2 (gh i (y 0)) (y 2).val (y 1) : EReal))]
  · intro p hp x
    obtain ⟨e, -, hp⟩ := List.mem_flatMap.1 hp
    obtain ⟨j, -, rfl⟩ := List.mem_map.1 hp
    have hx : ∀ x : S1x128x128.Idx, (vPiece (F := Ideal) i arg3 harg3 arg4 harg4 x1 x2 e j).2 x = widened x1 x2 (gh i e) (128 * j.val + (x 2).val) (x 1) := by
      intro z
      idx_vars z
      rw [show (ix3 z0 z1 z2 : S1x128x128.Idx) = ix3 0 z1 z2 from idx_ext3 (by show z0.val = 0; omega) rfl rfl]
      refine (vTile_apply _ _ _ _ _ _).trans ?_
      rw [wide_apply, vCode_eq, vScale_eq, kCode_apply, kScale_apply]
    refine (hx x).trans ?_
    have h0 : (x 0).val < 1 := (x 0).isLt
    have e0 : (vPiece (F := Ideal) i arg3 harg3 arg4 harg4 x1 x2 e j).1.emb x 0 = e := Fin.ext (by show e.val + 1 * (x 0).val = _; omega)
    have e1 : (vPiece (F := Ideal) i arg3 harg3 arg4 harg4 x1 x2 e j).1.emb x 1 = x 1 := Fin.ext (by show 0 + 1 * (x 1).val = _; omega)
    have e2 : ((vPiece (F := Ideal) i arg3 harg3 arg4 harg4 x1 x2 e j).1.emb x 2).val = 128 * j.val + (x 2).val := by show 128 * j.val + 1 * (x 2).val = _; omega
    dsimp only
    rw [e0, e1, e2]
  · idx_vars y
    have h1 := y2.isLt
    exact ⟨_, List.mem_flatMap.2 ⟨y0, mem_two y0, List.mem_map.2 ⟨⟨y2.val / 128, by omega⟩, mem_down8 _, rfl⟩⟩,
      mem3 (inb := inb3 (by omega) (by omega) (by dsimp only; omega)) ⟨le_refl _, Nat.lt_succ_self _⟩
        ⟨Nat.zero_le _, by show y1.val < 0 + 128; omega⟩ ⟨by show 128 * (y2.val / 128) ≤ y2.val; omega, by show y2.val < 128 * (y2.val / 128) + 128; omega⟩⟩
theorem kLoad_apply (e : Fin 2) (j : Fin 8) (k d : Fin 128) : kLoad (F := Ideal) c i arg3 harg3 arg4 harg4 arg16 x1 x2 e j (ix3 0 k d) = widened x1 x2 (gh i e) (128 * j.val + k.val) d := by
  unfold kLoad
  have hj := j.isLt
  have hk := k.isLt
  rw [readCov_apply _ _ _ _ (y := ix3 e ⟨128 * j.val + k.val, by omega⟩ d) (idx_ext3 (by rw [unit_idx]; rfl) (by rw [unit_idx]; rfl) (by rw [unit_idx]; exact Nat.zero_add _)), kBuf]
  rfl
theorem vLoad1_apply (e : Fin 2) (j : Fin 8) (k d : Fin 128) : vLoad1 (F := Ideal) c i arg3 harg3 arg4 harg4 arg17 x1 x2 e j (ix3 0 d k) = widened x1 x2 (gh i e) (128 * j.val + k.val) d := by
  unfold vLoad1
  have hj := j.isLt
  have hk := k.isLt
  rw [readCov_apply _ _ _ _ (y := ix3 e d ⟨128 * j.val + k.val, by omega⟩) (idx_ext3 (by rw [unit_idx]; rfl) (by rw [unit_idx]; exact Nat.zero_add _) (by rw [unit_idx]; rfl)), vBuf]
  rfl
theorem vLoad2_apply (e : Fin 2) (n : Fin 4) (k : Fin 256) (d : Fin 128) : vLoad2 (F := Ideal) c i arg3 harg3 arg4 harg4 arg17 x1 x2 e n (ix3 0 d k) = widened x1 x2 (gh i e) (256 * n.val + k.val) d := by
  unfold vLoad2
  have hj := n.isLt
  have hk := k.isLt
  rw [readCov_apply _ _ _ _ (y := ix3 e d ⟨256 * n.val + k.val, by omega⟩) (idx_ext3 (by rw [unit_idx]; rfl) (by rw [unit_idx]; exact Nat.zero_add _) (by rw [unit_idx]; rfl)), vBuf]
  rfl

end Widen
end Cert.KernelIdeal.VS

end
-- ==== Proof.Units.lean ====
/- One unit: a tile of queries of two heads, its scores, its weights, their sum and the weighted values. -/
module

public import proofs.«01_k».proof.Proof.Tiles
public import proofs.«01_k».proof.Proof.Math
public import Idealize.ShloMosaic.Lib.Pointwise
public import Idealize.ShloMosaic.Lib.BitcastPair

@[expose] public section

set_option maxRecDepth 16384

noncomputable section

namespace Cert.KernelIdeal.VS

open Idealize.ShloMosaic Idealize.ShloMosaic.TcCoe Idealize.ShloMosaic.Tactic Idealize.SL.Sem Cert.KernelIdeal Cert.KernelIdeal.Gen
open Cert.KernelIdeal.Gen.kernelRun0_A

/-- A masked score, of a key head's key and a query of a head. -/
def Sf (x0 : Vec Ideal S1x1024x8x128 .bf16) (x1 : Vec Ideal S1x1024x8x128 .fp8e4m3) (x2 : Vec Ideal S1x1024x8 .f32) (x5 : Vec Ideal S1x8x200 .i32) (x6 : Vec Ideal S1x8x600 .i32) (g h : Fin 8) (q k : ℕ) : EReal :=
  if allow (slashP x6 h) (vertP x5 h) q k = true then ∑ d, widened x1 x2 g k d * x0 (ix4 0 (f1024 q) h d) else ⊥

/-! Running maxima and sums, over any scores. -/

theorem tmaxs_le (s : ℕ → FVec Ideal S128x256 .f32) (r : Fin 8) (l : Fin 256) (x : EReal) : ∀ n,
    tmaxs (F := Ideal) s n (ix2 r l) ≤ x ↔ ∀ j, j ≤ n → ∀ t : Fin 16, s j (ix2 ⟨t.val * 8 + r.val, by omega⟩ l) ≤ x
  | 0 => by
    show tmax (F := Ideal) (s 0) (ix2 r l) ≤ x ↔ _
    rw [tmax_le]
    exact ⟨fun h j hj t => by obtain rfl : j = 0 := by omega
                              exact h t, fun h => h 0 le_rfl⟩
  | n + 1 => by
    show max (tmaxs (F := Ideal) s n (ix2 r l)) (tmax (F := Ideal) (s (n + 1)) (ix2 r l)) ≤ x ↔ _
    rw [max_le_iff, tmaxs_le s r l x n, tmax_le]
    constructor
    · rintro ⟨h, h'⟩ j hj
      rcases Nat.lt_or_ge n j with h1 | h1
      · obtain rfl : j = n + 1 := by omega
        exact h'
      · exact h j h1
    · exact fun h => ⟨fun j hj => h j (by omega), h (n + 1) le_rfl⟩
theorem colMax_tmaxs (s : ℕ → FVec Ideal S128x256 .f32) (S : ℕ → EReal) (l : Fin 256) (n : ℕ)
    (hs : ∀ j, j ≤ n → ∀ k : Fin 128, s j (ix2 k l) = S (128 * j + k.val)) (x : EReal) :
    colMax (F := Ideal) (tmaxs s n) (ix2 0 l) ≤ x ↔ ∀ k, k < 128 * (n + 1) → S k ≤ x := by
  rw [colMax_le]
  constructor
  · intro h k hk
    have := (tmaxs_le s ⟨k % 8, by omega⟩ l x n).1 (h _) (k / 128) (by omega) ⟨k % 128 / 8, by omega⟩
    rw [hs _ (by omega)] at this
    dsimp only at this
    rwa [show 128 * (k / 128) + (k % 128 / 8 * 8 + k % 8) = k by omega] at this
  · intro h r
    rw [tmaxs_le]
    intro j hj t
    rw [hs j hj]
    exact h _ (by dsimp only; omega)
theorem range_step (a T : ℕ) (W : ℕ → EReal) : (∑ k ∈ Finset.range a, W k) + ∑ k : Fin T, W (a + k.val) = ∑ k ∈ Finset.range (a + T), W k := by
  rw [Finset.sum_range_add, Finset.sum_range fun k => W (a + k)]
theorem ls_sum (m : FVec Ideal S1x256 .f32) (s : ℕ → Vec Ideal S1x256x256 .f32) (W : ℕ → EReal) (l : Fin 256) : ∀ n
    (_ : ∀ j, j < n → ∀ k : Fin 256, w256 (F := Ideal) m (s j) (ix2 k l) = W (256 * j + k.val)),
    ∑ r, ls (F := Ideal) m s n (ix2 r l) = ∑ k ∈ Finset.range (256 * n), W k
  | 0, _ => by
    refine (Finset.sum_congr rfl fun r _ => show ls (F := Ideal) m s 0 (ix2 r l) = 0 from ?_).trans (by simp)
    exact Ideal.ofBits_zero_f32
  | n + 1, h => by
    rw [Finset.sum_congr rfl fun r _ => show ls (F := Ideal) m s (n + 1) (ix2 r l) = ls (F := Ideal) m s n (ix2 r l) + l256 (F := Ideal) (w256 m (s n)) (ix2 r l) from rfl,
      Finset.sum_add_distrib, ls_sum m s W l n (fun j hj => h j (by omega)), l256_sum, Finset.sum_congr rfl fun k _ => h n (by omega) k, range_step]
    rfl
theorem accs_sum (m : FVec Ideal S1x256 .f32) (s : ℕ → Vec Ideal S1x256x256 .f32) (vx : ℕ → Vec Ideal S1x128x256 .bf16) (W V : ℕ → EReal) (d : Fin 128) (l : Fin 256) : ∀ n
    (_ : ∀ j, j ≤ n → ∀ k : Fin 256, w256 (F := Ideal) m (s j) (ix2 k l) = W (256 * j + k.val))
    (_ : ∀ j, j ≤ n → ∀ k : Fin 256, vx j (ix3 0 d k) = V (256 * j + k.val)),
    accs (F := Ideal) m s vx n (ix2 d l) = ∑ k ∈ Finset.range (256 * (n + 1)), V k * W k
  | 0, h, h' => by
    show d256 (F := Ideal) (vx 0) (w256 m (s 0)) (ix2 d l) = _
    rw [d256_apply, Finset.sum_congr rfl fun k _ => by rw [h 0 le_rfl k, h' 0 le_rfl k], Finset.sum_range]
    exact Finset.sum_congr rfl fun k _ => by simp only [Nat.mul_zero, Nat.zero_add]
  | n + 1, h, h' => by
    show accs (F := Ideal) m s vx n (ix2 d l) + d256 (F := Ideal) (vx (n + 1)) (w256 m (s (n + 1))) (ix2 d l) = _
    rw [accs_sum m s vx W V d l n (fun j hj => h j (by omega)) (fun j hj => h' j (by omega)), d256_apply,
      Finset.sum_congr rfl fun (k : Fin 256) _ => by rw [h (n + 1) le_rfl k, h' (n + 1) le_rfl k], range_step (256 * (n + 1)) 256 fun k => V k * W k]
    rfl
theorem l128_add (a : FVec Ideal S8x256 .f32) (p : FVec Ideal S128x256 .f32) (l : Fin 256) : ∑ r, addf a (l128 (F := Ideal) p) (ix2 r l) = (∑ r, a (ix2 r l)) + ∑ k : Fin 128, p (ix2 k l) := by
  rw [← l128_sum, ← Finset.sum_add_distrib]; rfl
/-- A unit's output, over any scores and values that its loads read. -/
theorem unitOut_apply (i : ℕ) (m : FVec Ideal S1x256 .f32) (s : ℕ → Vec Ideal S1x256x256 .f32) (s1 : Vec Ideal S1x128x256 .f32)
    (vx : ℕ → Vec Ideal S1x128x256 .bf16) (v1 : Vec Ideal S1x128x128 .bf16) (S V : ℕ → EReal) (d : Fin 128) (l : Fin 256)
    (hs : ∀ j, 2 * j + 1 ≤ i → ∀ k : Fin 256, s j (ix3 0 k l) = S (256 * j + k.val)) (hs1 : ∀ k : Fin 128, s1 (ix3 0 k l) = S (128 * i + k.val))
    (hv : ∀ j, 2 * j + 1 ≤ i → ∀ k : Fin 256, vx j (ix3 0 d k) = V (256 * j + k.val)) (hv1 : ∀ k : Fin 128, v1 (ix3 0 d k) = V (128 * i + k.val)) :
    unitOut (F := Ideal) i m s s1 vx v1 (ix2 d l)
      = (∑ k ∈ Finset.range (128 * (i + 1)), V k * Ideal.exp2 ((S k - m (ix2 0 l)) * cc))
        * Ideal.div 1 (∑ k ∈ Finset.range (128 * (i + 1)), Ideal.exp2 ((S k - m (ix2 0 l)) * cc)) := by
  generalize hW : (fun k => Ideal.exp2 ((S k - m (ix2 0 l)) * cc)) = W
  have hWk : ∀ k, Ideal.exp2 ((S k - m (ix2 0 l)) * cc) = W k := fun k => congrFun hW k
  have w2 : ∀ j, 2 * j + 1 ≤ i → ∀ k : Fin 256, w256 (F := Ideal) m (s j) (ix2 k l) = W (256 * j + k.val) := fun j hj k => by
    rw [w256_apply, hs j hj, hWk]
  have w1 : ∀ k : Fin 128, w128 (F := Ideal) m s1 (ix2 k l) = W (128 * i + k.val) := fun k => by
    rw [w128_apply, hs1, hWk]
  have d1 : d128 (F := Ideal) v1 (w128 m s1) (ix2 d l) = ∑ k : Fin 128, V (128 * i + k.val) * W (128 * i + k.val) := by
    rw [d128_apply]; exact Finset.sum_congr rfl fun k _ => by rw [hv1, w1]
  simp only [hWk]
  match i with
  | 0 =>
    show fin (F := Ideal) _ _ (ix2 d l) = _
    rw [fin_apply, l128_add, ls_sum m s W l 0 (fun j hj => absurd hj (by omega)), d1, Finset.sum_congr rfl fun k _ => w1 k, range_step]
    congr 1
  | i + 1 =>
    show (if i % 2 = 0 then _ else _ : FVec Ideal S128x256 .bf16) (ix2 d l) = _
    by_cases hp : i % 2 = 0
    · rw [if_pos hp, fin_apply, accs_sum m s vx W V d l (i / 2) (fun j hj => w2 j (by omega)) (fun j hj => hv j (by omega)),
        ls_sum m s W l (i / 2 + 1) (fun j hj => w2 j (by omega)), show 256 * (i / 2 + 1) = 128 * (i + 1 + 1) by omega]
    · rw [if_neg hp, fin_apply, l128_add, ls_sum m s W l (i / 2 + 1) (fun j hj => w2 j (by omega)), Finset.sum_congr rfl fun k _ => w1 k]
      rw [show addf (F := Ideal) (accs m s vx (i / 2)) (d128 v1 (w128 m s1)) (ix2 d l) = accs (F := Ideal) m s vx (i / 2) (ix2 d l) + d128 (F := Ideal) v1 (w128 m s1) (ix2 d l) from rfl,
        d1, accs_sum m s vx W V d l (i / 2) (fun j hj => w2 j (by omega)) (fun j hj => hv j (by omega)), show 256 * (i / 2 + 1) = 128 * (i + 1) by omega,
        range_step (128 * (i + 1)) 128 W, range_step (128 * (i + 1)) 128 fun k => V k * W k]
      rfl

section Units

variable (c : Dev nD) (i : grid0.Coords) (arg2 : Memref sig .tc .vmem S1x1024x8x128 .bf16) (harg2 : arg2.IsWhole) (arg3 : Memref sig .tc .vmem S1x1024x8x128 .fp8e4m3) (harg3 : arg3.IsWhole) (arg4 : Memref sig .tc .vmem S1x1024x8 .f32) (harg4 : arg4.IsWhole) (arg5 : Memref sig .tc .vmem S1x1024x8x128 .fp8e4m3) (harg5 : arg5.IsWhole) (arg6 : Memref sig .tc .vmem S1x1024x8 .f32) (harg6 : arg6.IsWhole) (arg7 : Memref sig .tc .vmem S1x8x200 .i32) (harg7 : arg7.IsWhole) (arg8 : Memref sig .tc .vmem S1x8x600 .i32) (harg8 : arg8.IsWhole) (arg9 : Memref sig .tc .vmem S1x1024x1024 .bf16) (harg9 : arg9.IsWhole) (arg10 : Memref sig .tc .vmem S8x640 .i32) (harg10 : arg10.IsWhole) (arg11 : Memref sig .tc .vmem S8x256 .i32) (harg11 : arg11.IsWhole) (arg12 : Memref sig .tc .vmem S8x8x128 .i32) (harg12 : arg12.IsWhole) (arg13 : Memref sig .tc .vmem S128x128 .i32) (harg13 : arg13.IsWhole) (arg14 : Memref sig .tc .vmem S8x8x64x128 .i32) (harg14 : arg14.IsWhole) (arg15 : Memref sig .tc .vmem S8x8x64x128 .i32) (harg15 : arg15.IsWhole) (arg16 : Memref sig .tc .vmem S2x1024x128 .bf16) (harg16 : arg16.IsWhole) (arg17 : Memref sig .tc .vmem S2x128x1024 .bf16) (harg17 : arg17.IsWhole) (arg18 : Memref sig .tc .vmem S2x1024x256 .f32) (harg18 : arg18.IsWhole) (x0 : Vec Ideal S1x1024x8x128 .bf16) (x1 : Vec Ideal S1x1024x8x128 .fp8e4m3) (x2 : Vec Ideal S1x1024x8 .f32) (x3 : Vec Ideal S1x1024x8x128 .fp8e4m3) (x4 : Vec Ideal S1x1024x8 .f32) (x5 : Vec Ideal S1x8x200 .i32) (x6 : Vec Ideal S1x8x600 .i32)

theorem qLoad_apply (t : Fin 8) (p : Fin 4) (l d : Fin 128) (s : Fin 2) :
    qLoad (F := Ideal) arg2 harg2 x0 t p (ix4 0 l s d) = x0 (ix4 0 (f1024 (128 * t.val + l.val)) (f8 (2 * p.val + s.val)) d) := by
  unfold qLoad
  rw [readAt_unread]
  congr 1
  have ht := t.isLt
  have hp := p.isLt
  have hl := l.isLt
  have hs := s.isLt
  exact idx_ext4 rfl (by show 128 * t.val + 1 * l.val = (128 * t.val + l.val) % 1024; omega) (by show 2 * p.val + 1 * s.val = (2 * p.val + s.val) % 8; omega) (by show 0 + 1 * d.val = d.val; omega)

/-- A column's head, of the eight of a block. -/
abbrev colH (u : ℕ) (l : Fin 256) : Fin 8 := f8 (2 * (up u).val + l.val / 128)
/-- A column's query. -/
abbrev colQ (u : ℕ) (l : Fin 256) : ℕ := 128 * (ui u).val + l.val % 128
theorem sc_lo (u j : ℕ) (hj : j ≤ (ui u).val) (k l : Fin 128) :
    sc (F := Ideal) c i arg2 harg2 arg3 harg3 arg4 harg4 arg7 harg7 arg8 harg8 arg10 arg11 arg12 arg13 arg14 arg15 arg16 x0 x1 x2 x5 x6 u j (ix2 k ⟨l.val, by omega⟩)
      = Sf x0 x1 x2 x5 x6 (gh i (ue u)) (f8 (2 * (up u).val)) (128 * (ui u).val + l.val) (128 * j + k.val) := by
  have hu := (ui u).isLt
  have ej : (f8 j).val = j := Nat.mod_eq_of_lt (by omega)
  unfold sc Sf
  rw [score_lo, mask_words _ _ _ _ _ _ _ _ _ _ _ _ _ _ _ _ (by rw [ej]; exact hj), VS.add_mask, ej]
  refine if_congr Iff.rfl (Finset.sum_congr rfl fun d _ => ?_) rfl
  rw [kLoad_apply, ej, q_lo, qLoad_apply]
  rfl
theorem sc_hi (u j : ℕ) (hj : j ≤ (ui u).val) (k l : Fin 128) :
    sc (F := Ideal) c i arg2 harg2 arg3 harg3 arg4 harg4 arg7 harg7 arg8 harg8 arg10 arg11 arg12 arg13 arg14 arg15 arg16 x0 x1 x2 x5 x6 u j (ix2 k ⟨128 + l.val, by omega⟩)
      = Sf x0 x1 x2 x5 x6 (gh i (ue u)) (f8 (2 * (up u).val + 1)) (128 * (ui u).val + l.val) (128 * j + k.val) := by
  have hu := (ui u).isLt
  have ej : (f8 j).val = j := Nat.mod_eq_of_lt (by omega)
  unfold sc Sf
  rw [score_hi, mask_words _ _ _ _ _ _ _ _ _ _ _ _ _ _ _ _ (by rw [ej]; exact hj), VS.add_mask, ej]
  refine if_congr Iff.rfl (Finset.sum_congr rfl fun d _ => ?_) rfl
  rw [kLoad_apply, ej, q_hi, qLoad_apply]
  rfl
/-- The scores of a unit. -/
theorem sc_apply (u j : ℕ) (hj : j ≤ (ui u).val) (k : Fin 128) (l : Fin 256) :
    sc (F := Ideal) c i arg2 harg2 arg3 harg3 arg4 harg4 arg7 harg7 arg8 harg8 arg10 arg11 arg12 arg13 arg14 arg15 arg16 x0 x1 x2 x5 x6 u j (ix2 k l) = Sf x0 x1 x2 x5 x6 (gh i (ue u)) (colH u l) (colQ u l) (128 * j + k.val) := by
  by_cases hl : l.val < 128
  · have e := sc_lo c i arg2 harg2 arg3 harg3 arg4 harg4 arg7 harg7 arg8 harg8 arg10 arg11 arg12 arg13 arg14 arg15 arg16 x0 x1 x2 x5 x6 u j hj k ⟨l.val, hl⟩
    rw [show f8 (2 * (up u).val) = colH u l from Fin.ext (by show 2 * (up u).val % 8 = (2 * (up u).val + l.val / 128) % 8; omega),
      show 128 * (ui u).val + (⟨l.val, hl⟩ : Fin 128).val = colQ u l from by show 128 * (ui u).val + l.val = 128 * (ui u).val + l.val % 128; omega] at e
    exact e
  · have e := sc_hi c i arg2 harg2 arg3 harg3 arg4 harg4 arg7 harg7 arg8 harg8 arg10 arg11 arg12 arg13 arg14 arg15 arg16 x0 x1 x2 x5 x6 u j hj k ⟨l.val - 128, by omega⟩
    rw [show f8 (2 * (up u).val + 1) = colH u l from Fin.ext (by show (2 * (up u).val + 1) % 8 = (2 * (up u).val + l.val / 128) % 8; omega),
      show 128 * (ui u).val + (⟨l.val - 128, by omega⟩ : Fin 128).val = colQ u l from by show 128 * (ui u).val + (l.val - 128) = 128 * (ui u).val + l.val % 128; omega] at e
    rw [← e]
    congr 1
    exact idx_ext2 rfl (by show l.val = 128 + (l.val - 128); omega)
theorem sTile_apply (s : FVec Ideal S128x256 .f32) (k : Fin 128) (l : Fin 256) : sTile (F := Ideal) s (ix3 0 k l) = s (ix2 k l) := by
  pointwise [sTile]
/-- The score buffer after a unit's stores. -/
theorem sBuf (u : ℕ) (y : S2x1024x256.Idx) (h0 : (y 0).val = u % 2) (h1 : (y 1).val < 128 * ((ui u).val + 1)) :
    View.canon (sList (F := Ideal) c i arg2 harg2 arg3 harg3 arg4 harg4 arg7 harg7 arg8 harg8 arg10 arg11 arg12 arg13 arg14 arg15 arg16 x0 x1 x2 x5 x6 (u + 1)) y
      = Sf x0 x1 x2 x5 x6 (gh i (ue u)) (colH u (y 2)) (colQ u (y 2)) (y 1).val := by
  rw [sList, canon_prefix (fun y : S2x1024x256.Idx => (Sf x0 x1 x2 x5 x6 (gh i (ue u)) (colH u (y 2)) (colQ u (y 2)) (y 1).val : EReal))]
  · intro p hp x
    obtain ⟨j, hj, rfl⟩ := List.mem_map.1 hp
    have hj' : j.val ≤ (ui u).val := of_decide_eq_true (List.mem_filter.1 hj).2
    have hx : ∀ x : S1x128x256.Idx, (sPiece (F := Ideal) c i arg2 harg2 arg3 harg3 arg4 harg4 arg7 harg7 arg8 harg8 arg10 arg11 arg12 arg13 arg14 arg15 arg16 x0 x1 x2 x5 x6 u j).2 x
        = Sf x0 x1 x2 x5 x6 (gh i (ue u)) (colH u (x 2)) (colQ u (x 2)) (128 * j.val + (x 1).val) := by
      intro z
      idx_vars z
      rw [show (ix3 z0 z1 z2 : S1x128x256.Idx) = ix3 0 z1 z2 from idx_ext3 (by show z0.val = 0; omega) rfl rfl]
      exact (sTile_apply _ _ _).trans (sc_apply c i arg2 harg2 arg3 harg3 arg4 harg4 arg7 harg7 arg8 harg8 arg10 arg11 arg12 arg13 arg14 arg15 arg16 x0 x1 x2 x5 x6 u j.val hj' z1 z2)
    refine (hx x).trans ?_
    have e1 : ((sPiece (F := Ideal) c i arg2 harg2 arg3 harg3 arg4 harg4 arg7 harg7 arg8 harg8 arg10 arg11 arg12 arg13 arg14 arg15 arg16 x0 x1 x2 x5 x6 u j).1.emb x 1).val = 128 * j.val + (x 1).val := by show 128 * j.val + 1 * (x 1).val = _; omega
    have e2 : (sPiece (F := Ideal) c i arg2 harg2 arg3 harg3 arg4 harg4 arg7 harg7 arg8 harg8 arg10 arg11 arg12 arg13 arg14 arg15 arg16 x0 x1 x2 x5 x6 u j).1.emb x 2 = x 2 := Fin.ext (by show 0 + 1 * (x 2).val = _; omega)
    dsimp only
    rw [e1, e2]
  · idx_vars y
    have hy1 := y1.isLt
    have h0 : y0.val = u % 2 := h0
    have h1 : y1.val < 128 * ((ui u).val + 1) := h1
    exact ⟨_, List.mem_map.2 ⟨⟨y1.val / 128, by omega⟩, List.mem_filter.2 ⟨mem_down8 _, decide_eq_true (by dsimp only; omega)⟩, rfl⟩,
      mem3 (inb := inb3 (by omega) (by dsimp only; omega) (by omega)) ⟨by show u % 2 ≤ y0.val; omega, by show y0.val < u % 2 + 1; omega⟩ ⟨by show 128 * (y1.val / 128) ≤ y1.val; omega, by show y1.val < 128 * (y1.val / 128) + 128; omega⟩
        ⟨Nat.zero_le _, by show y2.val < 0 + 256; omega⟩⟩
theorem sLoad2_apply (u n : ℕ) (hn : 2 * n + 1 ≤ (ui u).val) (k l : Fin 256) :
    sLoad2 (F := Ideal) c i arg2 harg2 arg3 harg3 arg4 harg4 arg7 harg7 arg8 harg8 arg10 arg11 arg12 arg13 arg14 arg15 arg16 arg18 x0 x1 x2 x5 x6 u n (ix3 0 k l)
      = Sf x0 x1 x2 x5 x6 (gh i (ue u)) (colH u l) (colQ u l) (256 * n + k.val) := by
  have hu := (ui u).isLt
  have hk := k.isLt
  have hl := l.isLt
  unfold sLoad2
  rw [readCov_apply _ _ _ _ (y := ix3 ⟨u % 2, by omega⟩ ⟨256 * n + k.val, by omega⟩ l) (idx_ext3 (by rw [unit_idx]; rfl)
      (by rw [unit_idx]; show 256 * (n % 4) + k.val = 256 * n + k.val; rw [Nat.mod_eq_of_lt (by omega)]) (by rw [unit_idx]; exact Nat.zero_add _)), sBuf]
  · rfl
  · rfl
  · show 256 * n + k.val < _; omega
theorem sLoad1_apply (u : ℕ) (j : Fin 8) (hj : j.val ≤ (ui u).val) (k : Fin 128) (l : Fin 256) :
    sLoad1 (F := Ideal) c i arg2 harg2 arg3 harg3 arg4 harg4 arg7 harg7 arg8 harg8 arg10 arg11 arg12 arg13 arg14 arg15 arg16 arg18 x0 x1 x2 x5 x6 u j (ix3 0 k l)
      = Sf x0 x1 x2 x5 x6 (gh i (ue u)) (colH u l) (colQ u l) (128 * j.val + k.val) := by
  have hu := (ui u).isLt
  have hk := k.isLt
  have hl := l.isLt
  unfold sLoad1
  rw [readCov_apply _ _ _ _ (y := ix3 ⟨u % 2, by omega⟩ ⟨128 * j.val + k.val, by omega⟩ l) (idx_ext3 (by rw [unit_idx]; rfl)
      (by rw [unit_idx]; rfl) (by rw [unit_idx]; exact Nat.zero_add _)), sBuf]
  · rfl
  · rfl
  · show 128 * j.val + k.val < _; omega

/-- The scaled score of the plain spelling. -/
def sf (x0 : Vec Ideal S1x1024x8x128 .bf16) (x1 : Vec Ideal S1x1024x8x128 .fp8e4m3) (x2 : Vec Ideal S1x1024x8 .f32) (x5 : Vec Ideal S1x8x200 .i32) (x6 : Vec Ideal S1x8x600 .i32) (g h : Fin 8) (q k : ℕ) : EReal :=
  if allow (slashP x6 h) (vertP x5 h) q k = true then (∑ d, x0 (ix4 0 (f1024 q) h d) * x1 (ix4 0 (f1024 k) g d)) * (x2 (ix3 0 (f1024 k) g) * (rr : EReal)) else ⊥
/-- One entry of the output, in the plain spelling. -/
def attn (x0 : Vec Ideal S1x1024x8x128 .bf16) (x1 : Vec Ideal S1x1024x8x128 .fp8e4m3) (x2 : Vec Ideal S1x1024x8 .f32) (x3 : Vec Ideal S1x1024x8x128 .fp8e4m3) (x4 : Vec Ideal S1x1024x8 .f32) (x5 : Vec Ideal S1x8x200 .i32) (x6 : Vec Ideal S1x8x600 .i32) (g h : Fin 8) (q : ℕ) (d : Fin 128) (M : EReal) : EReal :=
  ∑ k ∈ Finset.range 1024, ((Ideal.exp (sf x0 x1 x2 x5 x6 g h q k - M) * Ideal.div 1 (∑ k ∈ Finset.range 1024, Ideal.exp (sf x0 x1 x2 x5 x6 g h q k - M))) * x4 (ix3 0 (f1024 k) g))
    * x3 (ix4 0 (f1024 k) g d)
theorem rr_pos : 0 < rr := by unfold rr; positivity
/-- A unit's output is the plain spelling's, the key scales being nonnegative and finite. -/
theorem outU_apply (hx2 : ∀ y, 0 ≤ (x2 y : EReal) ∧ (x2 y : EReal) ≠ ⊤) (u : ℕ) (d : Fin 128) (l : Fin 256) (M : EReal)
    (hM : ∀ x, M ≤ x ↔ ∀ k, k < 1024 → sf x0 x1 x2 x5 x6 (gh i (ue u)) (colH u l) (colQ u l) k ≤ x) :
    outU (F := Ideal) c i arg2 harg2 arg3 harg3 arg4 harg4 arg5 harg5 arg6 harg6 arg7 harg7 arg8 harg8 arg10 arg11 arg12 arg13 arg14 arg15 arg16 arg17 arg18 x0 x1 x2 x3 x4 x5 x6 u (ix2 d l)
      = attn x0 x1 x2 x3 x4 x5 x6 (gh i (ue u)) (colH u l) (colQ u l) d M := by
  have hu := (ui u).isLt
  have hl := l.isLt
  unfold outU
  rw [unitOut_apply _ _ _ _ _ _ (Sf x0 x1 x2 x5 x6 (gh i (ue u)) (colH u l) (colQ u l)) (fun k => widened x3 x4 (gh i (ue u)) k d) d l
    (fun j hj k => sLoad2_apply c i arg2 harg2 arg3 harg3 arg4 harg4 arg7 harg7 arg8 harg8 arg10 arg11 arg12 arg13 arg14 arg15 arg16 arg18 x0 x1 x2 x5 x6 u j hj k l)
    (fun k => sLoad1_apply c i arg2 harg2 arg3 harg3 arg4 harg4 arg7 harg7 arg8 harg8 arg10 arg11 arg12 arg13 arg14 arg15 arg16 arg18 x0 x1 x2 x5 x6 u (ui u) le_rfl k l)
    (fun j hj k => by rw [vLoad2_apply]; dsimp only; rw [Nat.mod_eq_of_lt (show j < 4 by omega)]) (fun k => vLoad1_apply c i arg5 harg5 arg6 harg6 arg17 x3 x4 (ue u) (ui u) k d)]
  refine VS.attend (128 * ((ui u).val + 1)) 1024 (by omega) rr_pos _ _ (fun k => x4 (ix3 0 (f1024 k) (gh i (ue u)))) (fun k => x3 (ix4 0 (f1024 k) (gh i (ue u)) d)) _ M ?_ ?_
    (colMax_tmaxs _ _ l _ fun j hj k => sc_apply c i arg2 harg2 arg3 harg3 arg4 harg4 arg7 harg7 arg8 harg8 arg10 arg11 arg12 arg13 arg14 arg15 arg16 x0 x1 x2 x5 x6 u j hj k l) hM
  · intro k hk
    unfold sf Sf
    by_cases h : allow (slashP x6 (colH u l)) (vertP x5 (colH u l)) (colQ u l) k = true
    · rw [if_pos h, if_pos h, VS.dot_scale _ _ (hx2 _).1 (hx2 _).2, ← mul_assoc, mul_comm]
      rw [mul_comm (x2 _ : EReal)]
    · rw [if_neg h, if_neg h, EReal.coe_mul_bot_of_pos rr_pos]
  · intro k hk _
    unfold sf allow
    rw [decide_eq_false (show ¬ k ≤ colQ u l from by show ¬ k ≤ 128 * (ui u).val + l.val % 128; omega), Bool.false_and]
    exact if_neg (by decide)

end Units
end Cert.KernelIdeal.VS

end
-- ==== Proof.Goal.lean ====
/- One entry of the attention output, away from any program: the plain spelling both programs are brought to. -/
module

public import proofs.«01_k».proof.Proof.Math

@[expose] public section

noncomputable section

namespace VS

open Idealize.ShloMosaic

/-- Whether a row of offsets or of keys has a number. -/
def hits {n : ℕ} (v : Fin n → BitVec 32) (k : ℕ) : Bool := decide (∃ x, v x = BitVec.ofNat 32 k)
/-- Whether query `q` attends key `k`: a key not after it, at one of the slash offsets or a vertical one. -/
def kept (s v : ℕ → Bool) (q k : ℕ) : Bool := decide (k ≤ q) && (s (q - k) || v k)
/-- The scale of a score. -/
abbrev scale : ℝ := (Real.sqrt 128)⁻¹
theorem scale_pos : 0 < scale := by unfold scale; positivity

/-- The masked scores of a query. -/
def scores (q : Fin 128 → EReal) (kc : Fin 1024 → Fin 128 → EReal) (ks : Fin 1024 → EReal) (s v : ℕ → Bool) (t : ℕ) (k : Fin 1024) : EReal :=
  if kept s v t k.val = true then (∑ d, q d * kc k d) * (ks k * (scale : EReal)) else ⊥
/-- The largest of the scores. -/
def top (σ : Fin 1024 → EReal) : EReal := Finset.univ.sup σ
theorem top_le (σ : Fin 1024 → EReal) (x : EReal) : top σ ≤ x ↔ ∀ k, σ k ≤ x := by
  unfold top; rw [Finset.sup_le_iff]; exact ⟨fun h k => h k (Finset.mem_univ k), fun h k _ => h k⟩
/-- The softmax of scores, weighing values given as codes and scales. -/
def weigh (σ vc vs : Fin 1024 → EReal) : EReal :=
  ∑ k, ((Ideal.exp (σ k - top σ) * Ideal.div 1 (∑ k, Ideal.exp (σ k - top σ))) * vs k) * vc k

end VS

end
-- ==== Proof.Out.lean ====
/- The block a grid point leaves, entry by entry. -/
module

public import proofs.«01_k».proof.Proof.Units
public import proofs.«01_k».proof.Proof.Math
public import proofs.«01_k».proof.Proof.Goal
public import Idealize.ShloMosaic.Lib.Pointwise
public import Idealize.ShloMosaic.Lib.BitcastPair

@[expose] public section

set_option maxRecDepth 16384

noncomputable section

namespace Cert.KernelIdeal.VS

open Idealize.ShloMosaic Idealize.ShloMosaic.TcCoe Idealize.ShloMosaic.Tactic Idealize.SL.Sem Cert.KernelIdeal Cert.KernelIdeal.Gen
open Cert.KernelIdeal.Gen.kernelRun0_A

/-- One entry of a block's output. -/
def blkOut (x0 : Vec Ideal S1x1024x8x128 .bf16) (x1 : Vec Ideal S1x1024x8x128 .fp8e4m3) (x2 : Vec Ideal S1x1024x8 .f32) (x3 : Vec Ideal S1x1024x8x128 .fp8e4m3) (x4 : Vec Ideal S1x1024x8 .f32) (x5 : Vec Ideal S1x8x200 .i32) (x6 : Vec Ideal S1x8x600 .i32) (g h : Fin 8) (q : Fin 1024) (d : Fin 128) : EReal :=
  VS.weigh (VS.scores (fun d => x0 (ix4 0 q h d)) (fun k d => x1 (ix4 0 k g d)) (fun k => x2 (ix3 0 k g))
      (VS.hits fun t : Fin 600 => x6 (ix3 0 h t)) (VS.hits fun t : Fin 200 => x5 (ix3 0 h t)) q.val)
    (fun k => x3 (ix4 0 k g d)) (fun k => x4 (ix3 0 k g))
theorem f1024_val (k : Fin 1024) : f1024 k.val = k := Fin.ext (Nat.mod_eq_of_lt k.isLt)
theorem hitP_eq {n : ℕ} (v : Fin n → BitVec 32) (k : ℕ) : hitP v k = VS.hits v k := by
  unfold hitP VS.hits; exact decide_eq_decide.2 Iff.rfl
theorem sf_scores (x0 : Vec Ideal S1x1024x8x128 .bf16) (x1 : Vec Ideal S1x1024x8x128 .fp8e4m3) (x2 : Vec Ideal S1x1024x8 .f32) (x5 : Vec Ideal S1x8x200 .i32) (x6 : Vec Ideal S1x8x600 .i32) (g h : Fin 8) (q k : Fin 1024) :
    sf x0 x1 x2 x5 x6 g h q.val k.val = VS.scores (fun d => x0 (ix4 0 q h d)) (fun k d => x1 (ix4 0 k g d)) (fun k => x2 (ix3 0 k g))
      (VS.hits fun t : Fin 600 => x6 (ix3 0 h t)) (VS.hits fun t : Fin 200 => x5 (ix3 0 h t)) q.val k := by
  unfold sf VS.scores
  rw [f1024_val, f1024_val]
  refine if_congr (Iff.of_eq ?_) rfl rfl
  unfold allow VS.kept slashP vertP
  rw [hitP_eq, hitP_eq]
theorem attn_eq (x0 : Vec Ideal S1x1024x8x128 .bf16) (x1 : Vec Ideal S1x1024x8x128 .fp8e4m3) (x2 : Vec Ideal S1x1024x8 .f32) (x3 : Vec Ideal S1x1024x8x128 .fp8e4m3) (x4 : Vec Ideal S1x1024x8 .f32) (x5 : Vec Ideal S1x8x200 .i32) (x6 : Vec Ideal S1x8x600 .i32) (g h : Fin 8) (q : Fin 1024) (d : Fin 128) :
    attn x0 x1 x2 x3 x4 x5 x6 g h q.val d (VS.top fun k => sf x0 x1 x2 x5 x6 g h q.val k.val) = blkOut x0 x1 x2 x3 x4 x5 x6 g h q d := by
  unfold attn blkOut VS.weigh
  rw [Finset.sum_range, Finset.sum_range]
  simp only [sf_scores, f1024_val]

section Out

variable (c : Dev nD) (i : grid0.Coords) (arg2 : Memref sig .tc .vmem S1x1024x8x128 .bf16) (harg2 : arg2.IsWhole) (arg3 : Memref sig .tc .vmem S1x1024x8x128 .fp8e4m3) (harg3 : arg3.IsWhole) (arg4 : Memref sig .tc .vmem S1x1024x8 .f32) (harg4 : arg4.IsWhole) (arg5 : Memref sig .tc .vmem S1x1024x8x128 .fp8e4m3) (harg5 : arg5.IsWhole) (arg6 : Memref sig .tc .vmem S1x1024x8 .f32) (harg6 : arg6.IsWhole) (arg7 : Memref sig .tc .vmem S1x8x200 .i32) (harg7 : arg7.IsWhole) (arg8 : Memref sig .tc .vmem S1x8x600 .i32) (harg8 : arg8.IsWhole) (arg9 : Memref sig .tc .vmem S1x1024x1024 .bf16) (harg9 : arg9.IsWhole) (arg10 : Memref sig .tc .vmem S8x640 .i32) (harg10 : arg10.IsWhole) (arg11 : Memref sig .tc .vmem S8x256 .i32) (harg11 : arg11.IsWhole) (arg12 : Memref sig .tc .vmem S8x8x128 .i32) (harg12 : arg12.IsWhole) (arg13 : Memref sig .tc .vmem S128x128 .i32) (harg13 : arg13.IsWhole) (arg14 : Memref sig .tc .vmem S8x8x64x128 .i32) (harg14 : arg14.IsWhole) (arg15 : Memref sig .tc .vmem S8x8x64x128 .i32) (harg15 : arg15.IsWhole) (arg16 : Memref sig .tc .vmem S2x1024x128 .bf16) (harg16 : arg16.IsWhole) (arg17 : Memref sig .tc .vmem S2x128x1024 .bf16) (harg17 : arg17.IsWhole) (arg18 : Memref sig .tc .vmem S2x1024x256 .f32) (harg18 : arg18.IsWhole) (x0 : Vec Ideal S1x1024x8x128 .bf16) (x1 : Vec Ideal S1x1024x8x128 .fp8e4m3) (x2 : Vec Ideal S1x1024x8 .f32) (x3 : Vec Ideal S1x1024x8x128 .fp8e4m3) (x4 : Vec Ideal S1x1024x8 .f32) (x5 : Vec Ideal S1x8x200 .i32) (x6 : Vec Ideal S1x8x600 .i32)

theorem outU_blk (hx2 : ∀ y, 0 ≤ (x2 y : EReal) ∧ (x2 y : EReal) ≠ ⊤) (u : ℕ) (d : Fin 128) (l : Fin 256) :
    outU (F := Ideal) c i arg2 harg2 arg3 harg3 arg4 harg4 arg5 harg5 arg6 harg6 arg7 harg7 arg8 harg8 arg10 arg11 arg12 arg13 arg14 arg15 arg16 arg17 arg18 x0 x1 x2 x3 x4 x5 x6 u (ix2 d l)
      = blkOut x0 x1 x2 x3 x4 x5 x6 (gh i (ue u)) (colH u l) (f1024 (colQ u l)) d := by
  have hu := (ui u).isLt
  have hq : colQ u l = (f1024 (colQ u l)).val := by
    show 128 * (ui u).val + l.val % 128 = (128 * (ui u).val + l.val % 128) % 1024
    omega
  rw [outU_apply c i arg2 harg2 arg3 harg3 arg4 harg4 arg5 harg5 arg6 harg6 arg7 harg7 arg8 harg8 arg10 arg11 arg12 arg13 arg14 arg15 arg16 arg17 arg18 x0 x1 x2 x3 x4 x5 x6 hx2 u d l
    (VS.top fun k => sf x0 x1 x2 x5 x6 (gh i (ue u)) (colH u l) (colQ u l) k.val) (fun x => by
      rw [VS.top_le]; exact ⟨fun h k hk => h ⟨k, hk⟩, fun h k => h k.val k.isLt⟩)]
  rw [← attn_eq, ← hq]
/-- The block a grid point leaves. -/
def blkG (y : S1x1024x1024.Idx) : EReal :=
  blkOut x0 x1 x2 x3 x4 x5 x6 (gh i ⟨(y 2).val / 512 % 2, by omega⟩) (f8 ((y 2).val / 128)) (y 1) ⟨(y 2).val % 128, by omega⟩
theorem outPieces_apply (hx2 : ∀ y, 0 ≤ (x2 y : EReal) ∧ (x2 y : EReal) ≠ ⊤) (u : ℕ) (hu : u < 32) (p : View.Piece (Elt Ideal) S1x1024x1024 .bf16)
    (hp : p ∈ outPieces (F := Ideal) c i arg2 harg2 arg3 harg3 arg4 harg4 arg5 harg5 arg6 harg6 arg7 harg7 arg8 harg8 arg10 arg11 arg12 arg13 arg14 arg15 arg16 arg17 arg18 x0 x1 x2 x3 x4 x5 x6 u) (x : p.1.shape.Idx) :
    p.2 x = blkG i x0 x1 x2 x3 x4 x5 x6 (p.1.emb x) := by
  have hue : (ue u).val = u / 16 := Nat.mod_eq_of_lt (by omega)
  have hui : (ui u).val = u / 2 % 8 := rfl
  have hup : (up u).val = 2 * (u / 16) + u % 2 := Nat.mod_eq_of_lt (by omega)
  unfold outPieces at hp
  rcases List.mem_cons.1 hp with rfl | hp
  · have h0 : (x 0).val < 1 := (x 0).isLt
    have h1 : (x 1).val < 128 := (x 1).isLt
    have h2 : (x 2).val < 128 := (x 2).isLt
    obtain ⟨r, hr⟩ : ∃ r : Fin 128, r = x 1 := ⟨x 1, rfl⟩
    obtain ⟨d, hd⟩ : ∃ d : Fin 128, d = x 2 := ⟨x 2, rfl⟩
    have ex : x = (ix3 0 r d : S1x128x128.Idx) := idx_ext3 (by show (x 0).val = 0; omega) (by rw [hr]) (by rw [hd])
    rw [ex]
    refine (half1_apply (outU (F := Ideal) c i arg2 harg2 arg3 harg3 arg4 harg4 arg5 harg5 arg6 harg6 arg7 harg7 arg8 harg8 arg10 arg11 arg12 arg13 arg14 arg15 arg16 arg17 arg18 x0 x1 x2 x3 x4 x5 x6 u) r d).trans ((outU_blk c i arg2 harg2 arg3 harg3 arg4 harg4 arg5 harg5 arg6 harg6 arg7 harg7 arg8 harg8 arg10 arg11 arg12 arg13 arg14 arg15 arg16 arg17 arg18 x0 x1 x2 x3 x4 x5 x6 hx2 u d _).trans ?_)
    have hr := r.isLt
    have hd := d.isLt
    unfold blkG
    congr 1
    · congr 1
      exact Fin.ext (by show (ue u).val = (256 * (up u).val + 128 + 1 * d.val) / 512 % 2; omega)
    · exact Fin.ext (by show (2 * (up u).val + (128 + r.val) / 128) % 8 = (256 * (up u).val + 128 + 1 * d.val) / 128 % 8; omega)
    · exact Fin.ext (by show (128 * (ui u).val + (128 + r.val) % 128) % 1024 = 128 * (ui u).val + 1 * r.val; omega)
    · exact Fin.ext (by show d.val = (256 * (up u).val + 128 + 1 * d.val) % 128; omega)
  · obtain rfl := List.mem_singleton.1 hp
    have h0 : (x 0).val < 1 := (x 0).isLt
    have h1 : (x 1).val < 128 := (x 1).isLt
    have h2 : (x 2).val < 128 := (x 2).isLt
    obtain ⟨r, hr⟩ : ∃ r : Fin 128, r = x 1 := ⟨x 1, rfl⟩
    obtain ⟨d, hd⟩ : ∃ d : Fin 128, d = x 2 := ⟨x 2, rfl⟩
    have ex : x = (ix3 0 r d : S1x128x128.Idx) := idx_ext3 (by show (x 0).val = 0; omega) (by rw [hr]) (by rw [hd])
    rw [ex]
    refine (half0_apply (outU (F := Ideal) c i arg2 harg2 arg3 harg3 arg4 harg4 arg5 harg5 arg6 harg6 arg7 harg7 arg8 harg8 arg10 arg11 arg12 arg13 arg14 arg15 arg16 arg17 arg18 x0 x1 x2 x3 x4 x5 x6 u) r d).trans ((outU_blk c i arg2 harg2 arg3 harg3 arg4 harg4 arg5 harg5 arg6 harg6 arg7 harg7 arg8 harg8 arg10 arg11 arg12 arg13 arg14 arg15 arg16 arg17 arg18 x0 x1 x2 x3 x4 x5 x6 hx2 u d _).trans ?_)
    have hr := r.isLt
    have hd := d.isLt
    unfold blkG
    congr 1
    · congr 1
      exact Fin.ext (by show (ue u).val = (256 * (up u).val + 1 * d.val) / 512 % 2; omega)
    · exact Fin.ext (by show (2 * (up u).val + r.val / 128) % 8 = (256 * (up u).val + 1 * d.val) / 128 % 8; omega)
    · exact Fin.ext (by show (128 * (ui u).val + r.val % 128) % 1024 = 128 * (ui u).val + 1 * r.val; omega)
    · exact Fin.ext (by show d.val = (256 * (up u).val + 1 * d.val) % 128; omega)
/-- What a grid point leaves in its output block. -/
theorem out_canon (hx2 : ∀ y, 0 ≤ (x2 y : EReal) ∧ (x2 y : EReal) ≠ ⊤) (y : S1x1024x1024.Idx) :
    View.canon ((List.range 32).reverse.flatMap (outPieces (F := Ideal) c i arg2 harg2 arg3 harg3 arg4 harg4 arg5 harg5 arg6 harg6 arg7 harg7 arg8 harg8 arg10 arg11 arg12 arg13 arg14 arg15 arg16 arg17 arg18 x0 x1 x2 x3 x4 x5 x6)) y
      = blkG i x0 x1 x2 x3 x4 x5 x6 y := by
  rw [View.canon_apply_of_pieces (fun y : S1x1024x1024.Idx => (blkG i x0 x1 x2 x3 x4 x5 x6 y : EReal))]
  · intro p hp x
    obtain ⟨u, hu, hp⟩ := List.mem_flatMap.1 hp
    exact outPieces_apply c i arg2 harg2 arg3 harg3 arg4 harg4 arg5 harg5 arg6 harg6 arg7 harg7 arg8 harg8 arg10 arg11 arg12 arg13 arg14 arg15 arg16 arg17 arg18 x0 x1 x2 x3 x4 x5 x6 hx2 u
      (List.mem_range.1 (List.mem_reverse.1 hu)) p hp x
  · idx_vars y
    have h1 := y1.isLt
    have h2 := y2.isLt
    have hlt : 16 * (y2.val / 512) + 2 * (y1.val / 128) + y2.val / 256 % 2 < 32 := by omega
    generalize hu : 16 * (y2.val / 512) + 2 * (y1.val / 128) + y2.val / 256 % 2 = u at hlt
    have hui : (ui u).val = y1.val / 128 := by show u / 2 % 8 = _; omega
    have hup : (up u).val = y2.val / 256 := by show (2 * (u / 16) + u % 2) % 4 = _; omega
    by_cases hh : y2.val / 128 % 2 = 0
    · exact ⟨_, List.mem_flatMap.2 ⟨u, List.mem_reverse.2 (List.mem_range.2 hlt), List.mem_cons_of_mem _ (List.mem_singleton.2 rfl)⟩,
        mem3 (inb := inb3 (by omega) (by omega) (by omega)) ⟨Nat.zero_le _, by show y0.val < 0 + 1; omega⟩
          ⟨by show 128 * (ui u).val ≤ y1.val; omega, by show y1.val < 128 * (ui u).val + 128; omega⟩
          ⟨by show 256 * (up u).val ≤ y2.val; omega, by show y2.val < 256 * (up u).val + 128; omega⟩⟩
    · exact ⟨_, List.mem_flatMap.2 ⟨u, List.mem_reverse.2 (List.mem_range.2 hlt), List.mem_cons_self ..⟩,
        mem3 (inb := inb3 (by omega) (by omega) (by omega)) ⟨Nat.zero_le _, by show y0.val < 0 + 1; omega⟩
          ⟨by show 128 * (ui u).val ≤ y1.val; omega, by show y1.val < 128 * (ui u).val + 128; omega⟩
          ⟨by show 256 * (up u).val + 128 ≤ y2.val; omega, by show y2.val < 256 * (up u).val + 128 + 128; omega⟩⟩

end Out
end Cert.KernelIdeal.VS

end
-- ==== Proof.Final.lean ====
/- The kernel's output array as one function of its arguments. -/
module

public import proofs.«01_k».proof.Proof.Out
public import proofs.«01_k».proof.Proof.Gen.KernelIdeal.Value
public import Idealize.ShloMosaic.Lib.Pipeline.ValueKit

@[expose] public section

set_option maxRecDepth 16384

noncomputable section

namespace Cert.KernelIdeal.VS

open Idealize.ShloMosaic Idealize.ShloMosaic.TcCoe Idealize.ShloMosaic.Tactic Idealize.SL.Sem Cert.KernelIdeal Cert.KernelIdeal.Gen

/-- The output, entry by entry. -/
def outG (a0 : Vec Ideal S2x1024x32x128 .bf16) (a1 : Vec Ideal S2x1024x8x128 .fp8e4m3) (a2 : Vec Ideal S2x1024x8 .f32) (a3 : Vec Ideal S2x1024x8x128 .fp8e4m3) (a4 : Vec Ideal S2x1024x8 .f32) (a5 : Vec Ideal S2x32x200 .i32) (a6 : Vec Ideal S2x32x600 .i32) (b : Fin 2) (q : Fin 1024) (h : Fin 32) (d : Fin 128) : EReal :=
  VS.weigh (VS.scores (fun d => a0 (ix4 b q h d)) (fun k d => a1 (ix4 b k ⟨h.val / 4, by omega⟩ d)) (fun k => a2 (ix3 b k ⟨h.val / 4, by omega⟩))
      (VS.hits fun t : Fin 600 => a6 (ix3 b h t)) (VS.hits fun t : Fin 200 => a5 (ix3 b h t)) q.val)
    (fun k => a3 (ix4 b k ⟨h.val / 4, by omega⟩ d)) (fun k => a4 (ix3 b k ⟨h.val / 4, by omega⟩))

variable (m : (ℓ : Loc nD τ sig) → Buf (Elt Ideal) ℓ) (c : Dev nD)

/-- The output array, of the arguments as launched. -/
def outArr : Vec Ideal S2x1024x4096 .bf16 := fun y =>
  outG (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (y 0) (y 1) ⟨(y 2).val / 128, by have : (y 2).val < 4096 := (y 2).isLt; omega⟩
    ⟨(y 2).val % 128, by omega⟩

theorem ix0 : ∀ t : Fin cfg0.N, win0_0.index t = ![(grid0.coords t 0).val, 0, (grid0.coords t 1).val, 0] := (by decide +kernel : ∀ t : Fin grid0.N, _)
theorem ix1 : ∀ t : Fin cfg0.N, win0_1.index t = ![(grid0.coords t 0).val, 0, 0, 0] := (by decide +kernel : ∀ t : Fin grid0.N, _)
theorem ix2' : ∀ t : Fin cfg0.N, win0_2.index t = ![(grid0.coords t 0).val, 0, 0] := (by decide +kernel : ∀ t : Fin grid0.N, _)
theorem ix3' : ∀ t : Fin cfg0.N, win0_3.index t = ![(grid0.coords t 0).val, 0, 0, 0] := (by decide +kernel : ∀ t : Fin grid0.N, _)
theorem ix4' : ∀ t : Fin cfg0.N, win0_4.index t = ![(grid0.coords t 0).val, 0, 0] := (by decide +kernel : ∀ t : Fin grid0.N, _)
theorem ix5 : ∀ t : Fin cfg0.N, win0_5.index t = ![(grid0.coords t 0).val, (grid0.coords t 1).val, 0] := (by decide +kernel : ∀ t : Fin grid0.N, _)
theorem ix6 : ∀ t : Fin cfg0.N, win0_6.index t = ![(grid0.coords t 0).val, (grid0.coords t 1).val, 0] := (by decide +kernel : ∀ t : Fin grid0.N, _)
theorem ix7 : ∀ t : Fin cfg0.N, win0_7.index t = ![(grid0.coords t 0).val, 0, (grid0.coords t 1).val] := (by decide +kernel : ∀ t : Fin grid0.N, _)

/-- The block of batches a point is at. -/
abbrev tb (t : Fin cfg0.N) : Fin 2 := ⟨(grid0.coords t 0).val, (grid0.coords t 0).isLt⟩
abbrev th (t : Fin cfg0.N) (h : Fin 8) : Fin 32 := ⟨8 * (grid0.coords t 1).val + h.val, by have : (grid0.coords t 1).val < 4 := (grid0.coords t 1).isLt; omega⟩

theorem blk0 (t : Fin cfg0.N) (q : Fin 1024) (h : Fin 8) (d : Fin 128) : (iblk m c 0 t : Vec Ideal S1x1024x8x128 .bf16) (ix4 0 q h d) = m ((c : Thread nD τ).loc main_arg0) (ix4 (tb t) q (th t h) d) := by
  blk_simp [iblk, V_main_arg0]
  congr 1
  refine idx_ext4 ?_ ?_ ?_ ?_ <;> blk_simp [ix0] <;> simp <;> omega
theorem blk1 (t : Fin cfg0.N) (k : Fin 1024) (g : Fin 8) (d : Fin 128) : (iblk m c 1 t : Vec Ideal S1x1024x8x128 .fp8e4m3) (ix4 0 k g d) = m ((c : Thread nD τ).loc main_arg1) (ix4 (tb t) k g d) := by
  blk_simp [iblk, V_main_arg1]
  congr 1
  refine idx_ext4 ?_ ?_ ?_ ?_ <;> blk_simp [ix1] <;> simp
theorem blk2 (t : Fin cfg0.N) (k : Fin 1024) (g : Fin 8) : (iblk m c 2 t : Vec Ideal S1x1024x8 .f32) (ix3 0 k g) = m ((c : Thread nD τ).loc main_arg2) (ix3 (tb t) k g) := by
  blk_simp [iblk, V_main_arg2]
  congr 1
  refine idx_ext3 ?_ ?_ ?_ <;> blk_simp [ix2'] <;> simp
theorem blk3 (t : Fin cfg0.N) (k : Fin 1024) (g : Fin 8) (d : Fin 128) : (iblk m c 3 t : Vec Ideal S1x1024x8x128 .fp8e4m3) (ix4 0 k g d) = m ((c : Thread nD τ).loc main_arg3) (ix4 (tb t) k g d) := by
  blk_simp [iblk, V_main_arg3]
  congr 1
  refine idx_ext4 ?_ ?_ ?_ ?_ <;> blk_simp [ix3'] <;> simp
theorem blk4 (t : Fin cfg0.N) (k : Fin 1024) (g : Fin 8) : (iblk m c 4 t : Vec Ideal S1x1024x8 .f32) (ix3 0 k g) = m ((c : Thread nD τ).loc main_arg4) (ix3 (tb t) k g) := by
  blk_simp [iblk, V_main_arg4]
  congr 1
  refine idx_ext3 ?_ ?_ ?_ <;> blk_simp [ix4'] <;> simp
theorem blk5 (t : Fin cfg0.N) (h : Fin 8) (x : Fin 200) : (iblk m c 5 t : Vec Ideal S1x8x200 .i32) (ix3 0 h x) = m ((c : Thread nD τ).loc main_arg5) (ix3 (tb t) (th t h) x) := by
  blk_simp [iblk, V_main_arg5]
  congr 1
  refine idx_ext3 ?_ ?_ ?_ <;> blk_simp [ix5] <;> simp <;> omega
theorem blk6 (t : Fin cfg0.N) (h : Fin 8) (x : Fin 600) : (iblk m c 6 t : Vec Ideal S1x8x600 .i32) (ix3 0 h x) = m ((c : Thread nD τ).loc main_arg6) (ix3 (tb t) (th t h) x) := by
  blk_simp [iblk, V_main_arg6]
  congr 1
  refine idx_ext3 ?_ ?_ ?_ <;> blk_simp [ix6] <;> simp <;> omega
theorem blkOut_iblk (t : Fin cfg0.N) (e : Fin 2) (h : Fin 8) (he : h.val / 4 = e.val) (q : Fin 1024) (d : Fin 128) :
    blkOut (iblk m c 0 t) (iblk m c 1 t) (iblk m c 2 t) (iblk m c 3 t) (iblk m c 4 t) (iblk m c 5 t) (iblk m c 6 t) (gh (grid0.coords t) e) h q d
      = outG (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (tb t) q (th t h) d := by
  have hg : gh (grid0.coords t) e = ⟨(th t h).val / 4, by have := (th t h).isLt; omega⟩ := Fin.ext (by
    show 2 * (grid0.coords t 1).val + e.val = (8 * (grid0.coords t 1).val + h.val) / 4
    omega)
  unfold blkOut outG
  rw [hg]
  simp only [blk0, blk1, blk2, blk3, blk4, blk5, blk6]
/-- Every entry is nonnegative and finite. -/
def Tame {s : Shape} (a : Vec Ideal s .f32) : Prop := ∀ y, 0 ≤ (a y : EReal) ∧ (a y : EReal) ≠ ⊤
/-- The output array after the run, the key scales being nonnegative and finite. -/
theorem out_eq (h2 : Tame (s := S2x1024x8) (m ((c : Thread nD τ).loc main_arg2))) :
    (dats m 0 c).arrAt 7 cfg0.N = outArr m c := by
  refine (dats m 0 c).arrAt_eq_of_covers 7 _ (by decide +kernel) fun t hf y => ?_
  blk_simp
  rw [after0_7]
  unfold outsAt0 out0_A_7
  rw [View.read_writes_junk_eq_canon, out_list]
  have hx2 : Tame (s := S1x1024x8) (iblk m c 2 t) := by
    intro y
    have ey : y = (ix3 0 (y 1) (y 2) : S1x1024x8.Idx) := idx_ext3 (by have : (y 0).val < 1 := (y 0).isLt; show (y 0).val = 0; omega) rfl rfl
    have e : (iblk m c 2 t : Vec Ideal S1x1024x8 .f32) y = m ((c : Thread nD τ).loc main_arg2) (ix3 (tb t) (y 1) (y 2)) :=
      (congrArg (iblk m c 2 t : Vec Ideal S1x1024x8 .f32) ey).trans (blk2 m c t (y 1) (y 2))
    exact (congrArg (fun z : EReal => 0 ≤ z ∧ z ≠ ⊤) e).mpr (h2 _)
  refine (out_canon c (grid0.coords t) _ _ _ _ _ _ _ _ _ _ _ _ _ _ _ _ _ _ _ _ _ _ _ (iblk m c 0 t) (iblk m c 1 t) (iblk m c 2 t) (iblk m c 3 t) (iblk m c 4 t) (iblk m c 5 t) (iblk m c 6 t) hx2 y).trans ?_
  unfold blkG outArr
  have h0 : (y 0).val < 1 := (y 0).isLt
  have h1 : (y 1).val < 1024 := (y 1).isLt
  have hy2 : (y 2).val < 1024 := (y 2).isLt
  refine (blkOut_iblk m c t _ _ (by show (y 2).val / 128 % 8 / 4 = (y 2).val / 512 % 2; omega) _ _).trans ?_
  congr 1
  · refine Fin.ext ?_
    blk_simp [ix7]
  · refine Fin.ext ?_
    blk_simp [ix7]
  · refine Fin.ext ?_
    blk_simp [ix7]; simp; omega
  · refine Fin.ext ?_
    blk_simp [ix7]; simp; omega

end Cert.KernelIdeal.VS

end
-- ==== Proof.Ref.lean ====
/- The reference, read at an index: the softmax of the masked scores, weighing the values. -/
module

public import proofs.«01_k».proof.Proof.Goal
public import proofs.«01_k».proof.Proof.Gen.ReferenceIdeal.Read
public import Idealize.ShloMosaic.Lib.Pointwise
public import Idealize.ShloMosaic.Lib.Routing.OpsOrder
public import Idealize.ShloMosaic.Lib.Pipeline.ValueKit

@[expose] public section

set_option maxRecDepth 16384

noncomputable section

namespace Cert.ReferenceIdeal.VS

open Cert.ReferenceIdeal Cert.ReferenceIdeal.Gen Cert.ReferenceIdeal.Read Idealize.ShloMosaic

theorem cmpi_eq_iff {n : ℕ} (a b : BitVec n) : IntOp.cmpi CmpIPredicate.eq a b = 1#1 ↔ a = b := by
  by_cases h : a = b
  · simp [IntOp.cmpi, h]
  · have hb : (a == b) = false := beq_eq_false_iff_ne.2 h
    simp [IntOp.cmpi, h, hb]

theorem and_word (a b : BitVec 1) : IntOp.andi a b = 1#1 ↔ a = 1#1 ∧ b = 1#1 := by
  revert a b; decide
theorem or_word (a b : BitVec 1) : IntOp.ori a b = 1#1 ↔ a = 1#1 ∨ b = 1#1 := by
  revert a b; decide

theorem v12_iff (x5 : IVec S2x32x200 32) (b : Fin 2) (h : Fin 32) (k : Fin 1024) :
    val_main_v12 (F := Ideal) x5 (ix3 b h k) = 1#1 ↔ VS.hits (fun x : Fin 200 => x5 (ix3 b h x)) k.val = true := by
  unfold val_main_v12
  pointwise [val_main_v11, val_main_v9, val_main_v7, val_main_v10, val_main_v8, val_main_v1, val_main_c]
  rw [Routing.fold_ori]
  simp only [cmpi_eq_iff, VS.hits, decide_eq_true_eq, Finset.mem_univ, true_and]

theorem v18_iff (x6 : IVec S2x32x600 32) (b : Fin 2) (h : Fin 32) (q k : Fin 1024) (hk : k.val ≤ q.val) :
    val_main_v18 (F := Ideal) x6 (ix4 b h q k) = 1#1 ↔ VS.hits (fun x : Fin 600 => x6 (ix3 b h x)) (q.val - k.val) = true := by
  unfold val_main_v18
  pointwise [val_main_v17, val_main_v15, val_main_v13, val_main_v16, val_main_v14, val_main_v6, val_main_v4, val_main_v5, val_main_v2, val_main_v3, val_main_v1, val_main_c_0]
  rw [Routing.fold_ori]
  have e : IntOp.subi (BitVec.ofNat 32 q.val) (BitVec.ofNat 32 k.val) = BitVec.ofNat 32 (q.val - k.val) := by
    apply BitVec.eq_of_toNat_eq
    have := q.isLt; have := k.isLt
    simp [IntOp.subi, BitVec.toNat_sub]; omega
  simp only [cmpi_eq_iff, VS.hits, decide_eq_true_eq, e, Finset.mem_univ, true_and]

theorem v20_iff (q k : Fin 1024) : val_main_v20 (F := Ideal) (ix2 q k) = 1#1 ↔ k.val ≤ q.val := by
  pointwise [val_main_v20, val_main_v19, val_main_c_1, val_main_v6, val_main_v4, val_main_v5, val_main_v2, val_main_v3, val_main_v1]
  have := q.isLt; have := k.isLt
  have e : (IntOp.subi (BitVec.ofNat 32 q.val) (BitVec.ofNat 32 k.val)).toNat = (4294967296 - k.val + q.val) % 4294967296 := by
    simp [IntOp.subi, BitVec.toNat_sub]; omega
  have ei : IntOp.cmpi CmpIPredicate.sge (IntOp.subi (BitVec.ofNat 32 q.val) (BitVec.ofNat 32 k.val)) 0#32
      = BitVec.ofBool (decide (k.val ≤ q.val)) := by
    have e2 : (0#32).sle (IntOp.subi (BitVec.ofNat 32 q.val) (BitVec.ofNat 32 k.val)) = decide (k.val ≤ q.val) := by
      rw [BitVec.sle, BitVec.toInt_eq_toNat_cond (IntOp.subi _ _), e]
      refine decide_eq_decide.2 ?_
      simp only [BitVec.toInt_zero]
      split <;> omega
    rw [← e2]; rfl
  rw [ei]
  by_cases hle : k.val ≤ q.val <;> simp [hle]

theorem v27_iff (x5 : IVec S2x32x200 32) (x6 : IVec S2x32x600 32) (b : Fin 2) (g : Fin 8) (r : Fin 4) (h : Fin 32) (hh : h.val = 4 * g.val + r.val) (q k : Fin 1024) :
    val_main_v27 (F := Ideal) x5 x6 (ix5 b g r q k) = 1#1
      ↔ VS.kept (VS.hits fun x : Fin 600 => x6 (ix3 b h x)) (VS.hits fun x : Fin 200 => x5 (ix3 b h x)) q.val k.val = true := by
  pointwise [val_main_v27, val_main_v26, val_main_v25, val_main_v24, val_main_v23, val_main_v22, val_main_v21]
  have e : (⟨g.val * 4 + r.val, by omega⟩ : Fin 32) = h := Fin.ext (by show g.val * 4 + r.val = h.val; omega)
  rw [e, and_word, or_word, v20_iff, v12_iff]
  unfold VS.kept
  by_cases hle : k.val ≤ q.val
  · rw [v18_iff x6 b h q k hle]
    simp [hle, or_comm]
  · simp [hle]

theorem idx_ext3 {n0 n1 n2 : ℕ} {y : (⟨3, ![n0, n1, n2]⟩ : Shape).Idx} {a : Fin n0} {b : Fin n1} {c : Fin n2} (h0 : (y 0).val = a.val)
    (h1 : (y 1).val = b.val) (h2 : (y 2).val = c.val) : y = ix3 a b c := by
  funext x; match x with | 0 => exact Fin.ext h0 | 1 => exact Fin.ext h1 | 2 => exact Fin.ext h2
theorem idx_ext4 {n0 n1 n2 n3 : ℕ} {y : (⟨4, ![n0, n1, n2, n3]⟩ : Shape).Idx} {a : Fin n0} {b : Fin n1} {c : Fin n2} {d : Fin n3}
    (h0 : (y 0).val = a.val) (h1 : (y 1).val = b.val) (h2 : (y 2).val = c.val) (h3 : (y 3).val = d.val) : y = ix4 a b c d := by
  funext x; match x with | 0 => exact Fin.ext h0 | 1 => exact Fin.ext h1 | 2 => exact Fin.ext h2 | 3 => exact Fin.ext h3
theorem idx_ext5 {n0 n1 n2 n3 n4 : ℕ} {y : (⟨5, ![n0, n1, n2, n3, n4]⟩ : Shape).Idx} {a : Fin n0} {b : Fin n1} {c : Fin n2} {d : Fin n3} {e : Fin n4}
    (h0 : (y 0).val = a.val) (h1 : (y 1).val = b.val) (h2 : (y 2).val = c.val) (h3 : (y 3).val = d.val) (h4 : (y 4).val = e.val) : y = ix5 a b c d e := by
  funext x; match x with | 0 => exact Fin.ext h0 | 1 => exact Fin.ext h1 | 2 => exact Fin.ext h2 | 3 => exact Fin.ext h3 | 4 => exact Fin.ext h4

variable (x0 : FVec Ideal S2x1024x32x128 .bf16) (x2 x4 : FVec Ideal S2x1024x8 .f32) (x5 : IVec S2x32x200 32) (x6 : IVec S2x32x600 32) (r0 r1 : FVec Ideal S2x1024x8x128 .bf16)
/-- The query head of a group's member. -/
abbrev qh (g : Fin 8) (r : Fin 4) : Fin 32 := ⟨g.val * 4 + r.val, by omega⟩
/-- The masked scores of a query of the reference. -/
def sg (b : Fin 2) (g : Fin 8) (r : Fin 4) (q : Fin 1024) : Fin 1024 → EReal :=
  VS.scores (fun d => x0 (ix4 b q (qh g r) d)) (fun k d => r0 (ix4 b k g d)) (fun k => x2 (ix3 b k g))
    (VS.hits fun x : Fin 600 => x6 (ix3 b (qh g r) x)) (VS.hits fun x : Fin 200 => x5 (ix3 b (qh g r) x)) q.val

theorem ofBits_neg_inf : Ideal.ofBits .f32 0xFF800000#32 = ⊥ := by
  simp [Ideal.ofBits, Ideal.ieee]
theorem rsqrt_dim : Ideal.rsqrt (Ideal.ofBits .f32 0x43000000#32) = ((VS.scale : ℝ) : EReal) := by
  have e : Ideal.ofBits .f32 0x43000000#32 = ((128 : ℝ) : EReal) := by
    simp [Ideal.ofBits, Ideal.ieee]
    rw [← EReal.coe_mul]; norm_num
  rw [e, Ideal.rsqrt_coe, if_neg (by norm_num), if_neg (by norm_num)]

theorem v40_apply (b : Fin 2) (g : Fin 8) (r : Fin 4) (q k : Fin 1024) :
    val_main_v40 (F := Ideal) x0 x2 x5 x6 r0 (ix5 b g r q k) = sg x0 x2 x5 x6 r0 b g r q k := by
  have hc := v27_iff x5 x6 b g r (qh g r) (by show g.val * 4 + r.val = 4 * g.val + r.val; omega) q k
  unfold val_main_v40
  generalize val_main_v27 (F := Ideal) x5 x6 = C at hc ⊢
  pointwise [val_main_v39, val_main_v38, val_main_v37, val_main_v36, val_main_v35, val_main_v32, val_main_v31, val_main_v30, val_main_v29, val_main_v28, val_main_cst,
    val_main_call0_v1, val_main_call0_v0, val_main_cst_2]
  rw [rsqrt_dim]
  unfold sg VS.scores
  have e : id (constant (F := Ideal) S_ FTy.f32 0xFF800000#32) ix0 = (⊥ : EReal) := ofBits_neg_inf
  rw [e]
  by_cases h : C (ix5 b g r q k) = 1#1
  · rw [if_pos (hc.1 h), h, ValueIdx.select_one]
    congr 1
    exact Finset.sum_congr rfl fun d _ => mul_comm _ _
  · rw [if_neg (fun h' => h (hc.2 h')), Scalar.select_of_ne_one h]

theorem v41_apply (b : Fin 2) (g : Fin 8) (r : Fin 4) (q : Fin 1024) :
    val_main_v41 (F := Ideal) x0 x2 x5 x6 r0 (ix4 b g r q) = VS.top (sg x0 x2 x5 x6 r0 b g r q) := by
  have h40 := v40_apply x0 x2 x5 x6 r0
  unfold val_main_v41
  generalize val_main_v40 (F := Ideal) x0 x2 x5 x6 r0 = A at h40 ⊢
  generalize sg x0 x2 x5 x6 r0 = σ at h40 ⊢
  pointwise [val_main_cst_3, h40]
  rw [ofBits_neg_inf]
  refine eq_of_forall_ge_iff fun y => ?_
  rw [VS.top_le, Finset.fold_max_le]
  exact ⟨fun h k => h.2 k (Finset.mem_univ k), fun h => ⟨bot_le, fun k _ => h k⟩⟩

theorem v45_apply (b : Fin 2) (g : Fin 8) (r : Fin 4) (q k : Fin 1024) :
    val_main_v45 (F := Ideal) x0 x2 x5 x6 r0 (ix5 b g r q k) = Ideal.exp (sg x0 x2 x5 x6 r0 b g r q k - VS.top (sg x0 x2 x5 x6 r0 b g r q)) := by
  rw [val_main_v45_apply, val_main_v44_apply, val_main_v43_apply, val_main_v42_apply]
  have e : idx_main_v42 (idx_main_v43 (ix5 b g r q k)) = ix4 b g r q := idx_ext4 rfl rfl rfl rfl
  rw [e, v40_apply, v41_apply, Ideal.hostUnary_exp_def, Ideal.subf_def]

theorem v46_apply (b : Fin 2) (g : Fin 8) (r : Fin 4) (q : Fin 1024) :
    val_main_v46 (F := Ideal) x0 x2 x5 x6 r0 (ix4 b g r q) = ∑ k, Ideal.exp (sg x0 x2 x5 x6 r0 b g r q k - VS.top (sg x0 x2 x5 x6 r0 b g r q)) := by
  rw [val_main_v46_apply, val_main_cst_4_apply, Ideal.ofBits_def, Ideal.ofBits_zero_f32, zero_add]
  refine Finset.sum_congr rfl fun k _ => ?_
  have e : idx_main_v46 (ix4 b g r q) k = ix5 b g r q k := idx_ext5 rfl rfl rfl rfl rfl
  rw [e, v45_apply]

theorem v54_apply (b : Fin 2) (g : Fin 8) (r : Fin 4) (q k : Fin 1024) :
    val_main_v54 (F := Ideal) x0 x2 x4 x5 x6 r0 (ix5 b g r q k)
      = Ideal.exp (sg x0 x2 x5 x6 r0 b g r q k - VS.top (sg x0 x2 x5 x6 r0 b g r q))
        * Ideal.div 1 (∑ k, Ideal.exp (sg x0 x2 x5 x6 r0 b g r q k - VS.top (sg x0 x2 x5 x6 r0 b g r q))) * x4 (ix3 b k g) := by
  rw [val_main_v54_apply, val_main_v53_apply, val_main_v52_apply, val_main_v51_apply, val_main_v50_apply, val_main_v49_apply, val_main_v48_apply, val_main_v47_apply, val_main_cst_5_apply,
    val_main_v34_apply, val_main_v33_apply]
  have e : idx_main_v47 (idx_main_v50 (ix5 b g r q k)) = ix4 b g r q := idx_ext4 rfl rfl rfl rfl
  have e' : idx_main_v33 (idx_main_v34 (idx_main_v52 (ix5 b g r q k))) = ix3 b k g := idx_ext3 rfl rfl rfl
  rw [e, e', v45_apply, v46_apply, Ideal.ofBits_def, Ideal.ofBits_one_f32]
  rfl

theorem v58_apply (b : Fin 2) (q : Fin 1024) (z : Fin 4096) :
    val_main_v58 (F := Ideal) x0 x2 x4 x5 x6 r0 r1 (ix3 b q z)
      = VS.weigh (sg x0 x2 x5 x6 r0 b ⟨z.val / 512, by omega⟩ ⟨z.val / 128 % 4, by omega⟩ q) (fun k => r1 (ix4 b k ⟨z.val / 512, by omega⟩ ⟨z.val % 128, by omega⟩)) (fun k => x4 (ix3 b k ⟨z.val / 512, by omega⟩)) := by
  have h0 := b.isLt
  have h1 := q.isLt
  have h2 := z.isLt
  have e : idx_main_v57 (ix3 b q z) = ix5 b q ⟨z.val / 512, by omega⟩ ⟨z.val / 128 % 4, by omega⟩ ⟨z.val % 128, by omega⟩ :=
    idx_ext5 (by show ((b.val * 1024 + q.val) * 4096 + z.val) / 4194304 = b.val; omega) (by show ((b.val * 1024 + q.val) * 4096 + z.val) / 4096 % 1024 = q.val; omega)
      (by show ((b.val * 1024 + q.val) * 4096 + z.val) / 512 % 8 = z.val / 512; omega) (by show ((b.val * 1024 + q.val) * 4096 + z.val) / 128 % 4 = z.val / 128 % 4; omega)
      (by show ((b.val * 1024 + q.val) * 4096 + z.val) % 128 = z.val % 128; omega)
  rw [val_main_v58_apply, val_main_v57_apply, e, val_main_v56_apply, Ideal.truncf_def, val_main_v55_apply]
  unfold VS.weigh
  refine Finset.sum_congr rfl fun k _ => ?_
  generalize (⟨z.val / 512, by omega⟩ : Fin 8) = g
  generalize (⟨z.val / 128 % 4, by omega⟩ : Fin 4) = r
  generalize (⟨z.val % 128, by omega⟩ : Fin 128) = d
  have el : lidx_main_v55 (idx_main_v56 (ix5 b q g r d)) k = ix4 b k g d := idx_ext4 rfl rfl rfl rfl
  have er : ridx_main_v55 (idx_main_v56 (ix5 b q g r d)) k = ix5 b g r q k := idx_ext5 rfl rfl rfl rfl rfl
  rw [el, er, v54_apply]
  exact mul_comm _ _

end Cert.ReferenceIdeal.VS

end
-- ==== Proof.Cast.lean ====
/- The reference's first step only widens the keys and the values: read at the ideal numbers it copies them. -/
module

public import proofs.«01_k».proof.Proof.Ref
public import proofs.«01_k».proof.Proof.Gen.ReferenceIdeal.Run
public import Idealize.ShloMosaic.Lib.Pipeline.ValueKit
public import Idealize.ShloMosaic.Lib.Pipeline.Value

@[expose] public section

set_option maxRecDepth 16384

noncomputable section

namespace Cert.ReferenceIdeal.VS

open Idealize.ShloMosaic Idealize.ShloMosaic.TcCoe Idealize.ShloMosaic.Tactic Idealize.SL.Sem Cert.ReferenceIdeal Cert.ReferenceIdeal.Gen

variable (m : (ℓ : Loc nD τ sig) → Buf (Elt Ideal) ℓ) (c : Dev nD)

theorem off4 : (![0, 0, 0, 0] : Fin 4 → ℕ) = fun _ => 0 := by
  funext a; fin_cases a <;> rfl
theorem out2 (x0 x1 : Vec Ideal S2x1024x8x128 .fp8e4m3) (y : S2x1024x8x128.Idx) : out0_2 (F := Ideal) x0 x1 y = x0 y := by
  unfold out0_2 r0_0
  rw [View.canon_cons_unit_zero off4, View.ld_unit_zero off4]
  rfl
theorem out3 (x0 x1 : Vec Ideal S2x1024x8x128 .fp8e4m3) (y : S2x1024x8x128.Idx) : out0_3 (F := Ideal) x0 x1 y = x1 y := by
  unfold out0_3 r0_0
  rw [View.canon_cons_unit_zero off4, View.ld_unit_zero off4]
  rfl
theorem keys_copied : (Value.reg_main_v0_0 m c : Vec Ideal S2x1024x8x128 .bf16) = fun y => m ((c : Thread nD τ).loc main_arg1) y := by
  unfold Value.reg_main_v0_0
  refine (dats m 0 c).arrAt_eq_of_covers 2 _ (by decide +kernel) fun t hf y => ?_
  blk_simp
  rw [after0_2]
  refine (out2 _ _ _).trans ?_
  blk_simp [iblk, V_main_arg1]
  rfl
theorem values_copied : (Value.reg_main_v0_1 m c : Vec Ideal S2x1024x8x128 .bf16) = fun y => m ((c : Thread nD τ).loc main_arg3) y := by
  unfold Value.reg_main_v0_1
  refine (dats m 0 c).arrAt_eq_of_covers 3 _ (by decide +kernel) fun t hf y => ?_
  blk_simp
  rw [after0_3]
  refine (out3 _ _ _).trans ?_
  blk_simp [iblk, V_main_arg3]
  rfl
end Cert.ReferenceIdeal.VS

end
-- ==== Proof.Same.lean ====
/- Both programs' results, and the precondition read back. -/
module

public import proofs.«01_k».proof.Proof.Final
public import proofs.«01_k».proof.Proof.Cast
public import proofs.«01_k».proof.Proof.Gen.Pre_pre
public import Idealize.ShloMosaic.Lib.ReduceAll

@[expose] public section

set_option maxRecDepth 16384

noncomputable section

namespace Cert.ReferenceIdeal.VS

open Idealize.ShloMosaic Idealize.ShloMosaic.TcCoe Idealize.ShloMosaic.Tactic Idealize.SL.Sem Cert.ReferenceIdeal Cert.ReferenceIdeal.Gen Cert.ReferenceIdeal.Read

/-- The reference's result array, of arrays of keys and values already widened. -/
theorem v58_goal (x0 : FVec Ideal S2x1024x32x128 .bf16) (x2 x4 : FVec Ideal S2x1024x8 .f32) (x5 : IVec S2x32x200 32) (x6 : IVec S2x32x600 32) (r0 r1 : FVec Ideal S2x1024x8x128 .bf16) (y : S2x1024x4096.Idx) :
    val_main_v58 (F := Ideal) x0 x2 x4 x5 x6 r0 r1 y
      = Cert.KernelIdeal.VS.outG x0 r0 x2 r1 x4 x5 x6 (y 0) (y 1) ⟨(y 2).val / 128, by have : (y 2).val < 4096 := (y 2).isLt; omega⟩ ⟨(y 2).val % 128, by omega⟩ := by
  have hz : (y 2).val < 4096 := (y 2).isLt
  have ey : y = (ix3 (y 0) (y 1) (y 2) : S2x1024x4096.Idx) := idx_ext3 rfl rfl rfl
  refine (congrArg (val_main_v58 (F := Ideal) x0 x2 x4 x5 x6 r0 r1) ey).trans ((v58_apply x0 x2 x4 x5 x6 r0 r1 (y 0) (y 1) (y 2)).trans ?_)
  have eg : (⟨(y 2).val / 512, by omega⟩ : Fin 8) = ⟨(y 2).val / 128 / 4, by omega⟩ := Fin.ext (by show (y 2).val / 512 = (y 2).val / 128 / 4; omega)
  have eh : qh ⟨(y 2).val / 128 / 4, by omega⟩ ⟨(y 2).val / 128 % 4, by omega⟩ = ⟨(y 2).val / 128, by omega⟩ :=
    Fin.ext (by show (y 2).val / 128 / 4 * 4 + (y 2).val / 128 % 4 = (y 2).val / 128; omega)
  rw [eg]
  unfold sg Cert.KernelIdeal.VS.outG
  rw [eh]
/-- What the reference leaves in its result array, of the arguments as launched. -/
theorem result (m : (ℓ : Loc nD τ sig) → Buf (Elt Ideal) ℓ) (c : Dev nD) (y : S2x1024x4096.Idx) :
    val_main_v58 (F := Ideal) (Value.exitV m c (Proc.devRef .tc main_arg0)) (Value.exitV m c (Proc.devRef .tc main_arg2)) (Value.exitV m c (Proc.devRef .tc main_arg4)) (Value.exitV m c (Proc.devRef .tc main_arg5))
        (Value.exitV m c (Proc.devRef .tc main_arg6)) (Value.exitV m c (Proc.devRef .tc main_v0_0)) (Value.exitV m c (Proc.devRef .tc main_v0_1)) y
      = Cert.KernelIdeal.VS.outG (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (y 0) (y 1) ⟨(y 2).val / 128, by have : (y 2).val < 4096 := (y 2).isLt; omega⟩ ⟨(y 2).val % 128, by omega⟩ := by
  rw [Value.exit_main_arg0, Value.exit_main_arg2, Value.exit_main_arg4, Value.exit_main_arg5, Value.exit_main_arg6, Value.exit_main_v0_0, Value.exit_main_v0_1]
  refine (v58_goal _ _ _ _ _ _ _ y).trans ?_
  refine (congrArg (fun r0 : Vec Ideal S2x1024x8x128 .bf16 => Cert.KernelIdeal.VS.outG _ r0 _ _ _ _ _ _ _ _ _) (keys_copied m c)).trans ?_
  exact congrArg (fun r1 : Vec Ideal S2x1024x8x128 .bf16 => Cert.KernelIdeal.VS.outG _ _ _ r1 _ _ _ _ _ _ _) (values_copied m c)

end Cert.ReferenceIdeal.VS

namespace Cert.Pre_pre.VS

open Idealize.ShloMosaic Cert.Pre_pre Cert.Pre_pre.Gen

theorem ofBits_inf : (FloatOps.ofBits (F := Ideal) .f32 0x7F800000#32 : EReal) = ⊤ := by
  show Ideal.ofBits .f32 0x7F800000#32 = ⊤
  simp [Ideal.ofBits, Ideal.ieee]
theorem ofBits_zero : (FloatOps.ofBits (F := Ideal) .f32 0x00000000#32 : EReal) = 0 := by
  show Ideal.ofBits .f32 0x00000000#32 = 0
  simp [Ideal.ofBits, Ideal.ieee]
/-- The precondition: the key scales are nonnegative and finite. -/
theorem tame (x0 : FVec Ideal S2x1024x32x128 .bf16) (x1 : FVec Ideal S2x1024x8x128 .fp8e4m3) (x2 : FVec Ideal S2x1024x8 .f32) (x3 : FVec Ideal S2x1024x8x128 .fp8e4m3) (x4 : FVec Ideal S2x1024x8 .f32) (x5 : IVec S2x32x200 32) (x6 : IVec S2x32x600 32)
    (h : Cert.Pre_pre.fn (F := Ideal) x0 x1 x2 x3 x4 x5 x6 = fun _ => 1#1) : Cert.KernelIdeal.VS.Tame (s := S2x1024x8) x2 := by
  intro y
  have e := congrFun h ValueIdx.ix0
  unfold Cert.Pre_pre.fn at e
  haveI : Subsingleton S_.Idx := ⟨fun a b => funext fun i => i.elim0⟩
  have e' := Host.reduce_andi_all _ _ _ _ _ e y
  have e2 : IntOp.andi (BitVec.ofBool (decide ((FloatOps.ofBits (F := Ideal) .f32 0x00000000#32 : EReal) ≤ x2 y)))
      (BitVec.ofBool (decide ((x2 y : EReal) < FloatOps.ofBits (F := Ideal) .f32 0x7F800000#32))) = 1#1 := e'
  rw [IntOp.andi_eq_one, ofBits_zero, ofBits_inf] at e2
  have hb : ∀ b : Bool, BitVec.ofBool b = 1#1 → b = true := by decide
  exact ⟨of_decide_eq_true (hb _ e2.1), (of_decide_eq_true (hb _ e2.2)).ne⟩

end Cert.Pre_pre.VS

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Same
public import Idealize.ShloMosaic.Lib.Bf16Pair
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- Each rewrite that idealizing made is sound at the bit-exact instance. -/
theorem preserves : preserves_Kernel_KernelIdeal :=
  ⟨IdealRules.bf16_pair.statement Cert.KernelIdeal.S1x128x2x128 Cert.KernelIdeal.S1x128x1x128,
    IdealRules.bf16_pair.halfStatement Cert.KernelIdeal.S128x128,
    IdealRules.named_const.statement Cert.KernelIdeal.κ "masked" .bf16 0xFB80#16 ⊥ rfl,
    IdealRules.named_const.statement Cert.KernelIdeal.κ "exp2_scale" .f32 0x3E0293EE#32 _ rfl⟩

/-- From the same arguments, the key scales nonnegative and finite, the two programs leave the same result at the ideal numbers. -/
theorem algebraic : algebraic_KernelIdeal_ReferenceIdeal_pre_pre := by
  intro m g m' g' hpre hagree
  refine ⟨fun c => Cert.KernelIdeal.VS.outArr m c, ?_, ?_⟩
  · refine (θ_run _ _ _).mono (fun r h c => ?_) (Cert.KernelIdeal.Value.run_blocks (F := Ideal) m g)
    exact ⟨(h c).1.trans (Cert.KernelIdeal.VS.out_eq m c (Cert.Pre_pre.VS.tame _ _ _ _ _ _ _ (hpre c))), (h c).2⟩
  · refine (θ_run _ _ _).mono (fun r h c => ?_) (Cert.ReferenceIdeal.Value.run (F := Ideal) m' g')
    refine ⟨((h c).1.trans (Cert.ReferenceIdeal.Read.val_main_v58_eq (F := Ideal) (Cert.ReferenceIdeal.Value.exitV m' c))).trans ?_, (h c).2⟩
    obtain ⟨h0, h1, h2, h3, h4, h5, h6⟩ := hagree c
    funext y
    refine (Cert.ReferenceIdeal.VS.result m' c y).trans ?_
    unfold Cert.KernelIdeal.VS.outArr
    rw [h0, h1, h2, h3, h4, h5, h6]

theorem claim : Cert.Claim := ⟨Cert.Kernel.Gen.facts, Cert.KernelIdeal.Gen.facts, Cert.ReferenceIdeal.Gen.facts, Cert.Pre_pre.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, preserves, algebraic⟩

end Cert.Proof

end
